-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_overlap_themselves [hPre_boxes_overlap_themselves : Cert.Pre_boxes_overlap_themselves.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_overlap_themselves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_overlap_themselves [hPre_boxes_overlap_themselves : Cert.Pre_boxes_overlap_themselves.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_overlap_themselves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_boxes_overlap_themselves [hKernelIdeal : Cert.KernelIdeal.Facts] [hPre_boxes_overlap_themselves : Cert.Pre_boxes_overlap_themselves.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_overlap_themselves m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_boxes_overlap_themselves [hReferenceIdeal : Cert.ReferenceIdeal.Facts] [hPre_boxes_overlap_themselves : Cert.Pre_boxes_overlap_themselves.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_overlap_themselves m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_boxes_overlap_themselves [hKernelIdeal : Cert.KernelIdeal.Facts] [hReferenceIdeal : Cert.ReferenceIdeal.Facts] [hPre_boxes_overlap_themselves : Cert.Pre_boxes_overlap_themselves.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_overlap_themselves m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_boxes_overlap_themselves : Cert.Pre_boxes_overlap_themselves.Facts),
    quiescent_Kernel (hKernel := hKernel)
    ∧ quiescent_KernelIdeal (hKernelIdeal := hKernelIdeal)
    ∧ quiescent_KernelIdeal_pre_boxes_overlap_themselves (hKernelIdeal := hKernelIdeal) (hPre_boxes_overlap_themselves := hPre_boxes_overlap_themselves)
    ∧ quiescent_ReferenceIdeal (hReferenceIdeal := hReferenceIdeal)
    ∧ quiescent_ReferenceIdeal_pre_boxes_overlap_themselves (hReferenceIdeal := hReferenceIdeal) (hPre_boxes_overlap_themselves := hPre_boxes_overlap_themselves)
    ∧ preserves_Kernel_KernelIdeal
    ∧ algebraic_KernelIdeal_ReferenceIdeal_pre_boxes_overlap_themselves (hKernelIdeal := hKernelIdeal) (hReferenceIdeal := hReferenceIdeal) (hPre_boxes_overlap_themselves := hPre_boxes_overlap_themselves)
-- ==== Pre_boxes_overlap_themselves.lean ====
abbrev S2x5000x4 : Shape := ⟨3, ![2, 5000, 4]⟩
abbrev S2x5000x81 : Shape := ⟨3, ![2, 5000, 81]⟩
abbrev S2x5000x81x4 : Shape := ⟨4, ![2, 5000, 81, 4]⟩
abbrev S2x93 : Shape := ⟨2, ![2, 93]⟩
abbrev S4 : Shape := ⟨1, ![4]⟩
abbrev S1x3 : Shape := ⟨2, ![1, 3]⟩
abbrev S3 : Shape := ⟨1, ![3]⟩
abbrev S1 : Shape := ⟨1, ![1]⟩
abbrev S_ : Shape := ⟨0, ![]⟩
abbrev S2x4 : Shape := ⟨2, ![2, 4]⟩
abbrev S1x4 : Shape := ⟨2, ![1, 4]⟩
abbrev S2x5000 : Shape := ⟨2, ![2, 5000]⟩
abbrev S2x5000x1 : Shape := ⟨3, ![2, 5000, 1]⟩
abbrev S81 : Shape := ⟨1, ![81]⟩
abbrev S2x5000x1x1 : Shape := ⟨4, ![2, 5000, 1, 1]⟩
abbrev S2x5000x1x4 : Shape := ⟨4, ![2, 5000, 1, 4]⟩
abbrev S1x1x4 : Shape := ⟨3, ![1, 1, 4]⟩
abbrev S2x1 : Shape := ⟨2, ![2, 1]⟩

class Facts : Prop where
  slices_S2x93_S1x3_0_4 : S2x93.Slices ![0, 4] S1x3
  shapeCasts_S1x3_S3 : S1x3.ShapeCasts S3
  slices_S3_S1_0 : S3.Slices ![0] S1
  shapeCasts_S1_S_ : S1.ShapeCasts S_
  slices_S3_S1_1 : S3.Slices ![1] S1
  bcast_S_S1 : S_.BroadcastsInDim S1 (![] : Fin 0 → Fin S1.rank)
  concatenates_S1_S1_S1_S1_S4_d0 : Shape.Concatenates [S1, S1, S1, S1] S4 0
  slices_S2x93_S2x4_0_7 : S2x93.Slices ![0, 7] S2x4
  bcast_S4_S1x4_1 : S4.BroadcastsInDim S1x4 (![1] : Fin 1 → Fin S1x4.rank)
  bcast_S1x4_S2x4_0_1 : S1x4.BroadcastsInDim S2x4 (![0, 1] : Fin 2 → Fin S2x4.rank)
  reducesTo_S2x5000x81_S2x5000_d2 : S2x5000x81.ReducesTo [2] S2x5000
  h_S_ : 0 < S_.numel
  bcast_S2x5000_S2x5000x1_0_1 : S2x5000.BroadcastsInDim S2x5000x1 (![0, 1] : Fin 2 → Fin S2x5000x1.rank)
  bcast_S2x5000x1_S2x5000x81_0_1_2 : S2x5000x1.BroadcastsInDim S2x5000x81 (![0, 1, 2] : Fin 3 → Fin S2x5000x81.rank)
  bcast_S81_S2x5000x81_2 : S81.BroadcastsInDim S2x5000x81 (![2] : Fin 1 → Fin S2x5000x81.rank)
  bcast_S_S2x5000x81 : S_.BroadcastsInDim S2x5000x81 (![] : Fin 0 → Fin S2x5000x81.rank)
  bcast_S2x5000_S2x5000x1x1_0_1 : S2x5000.BroadcastsInDim S2x5000x1x1 (![0, 1] : Fin 2 → Fin S2x5000x1x1.rank)
  bcast_S_S2x5000x1x1 : S_.BroadcastsInDim S2x5000x1x1 (![] : Fin 0 → Fin S2x5000x1x1.rank)
  shapeCasts_S2x5000x1x4_S2x5000x4 : S2x5000x1x4.ShapeCasts S2x5000x4
  bcast_S4_S1x1x4_2 : S4.BroadcastsInDim S1x1x4 (![2] : Fin 1 → Fin S1x1x4.rank)
  bcast_S1x1x4_S2x5000x4_0_1_2 : S1x1x4.BroadcastsInDim S2x5000x4 (![0, 1, 2] : Fin 3 → Fin S2x5000x4.rank)
  slices_S2x5000x4_S2x5000x1_0_0_2 : S2x5000x4.Slices ![0, 0, 2] S2x5000x1
  shapeCasts_S2x5000x1_S2x5000 : S2x5000x1.ShapeCasts S2x5000
  slices_S2x5000x4_S2x5000x1_0_0_0 : S2x5000x4.Slices ![0, 0, 0] S2x5000x1
  slices_S2x5000x4_S2x5000x1_0_0_3 : S2x5000x4.Slices ![0, 0, 3] S2x5000x1
  slices_S2x5000x4_S2x5000x1_0_0_1 : S2x5000x4.Slices ![0, 0, 1] S2x5000x1
  bcast_S_S2x5000 : S_.BroadcastsInDim S2x5000 (![] : Fin 0 → Fin S2x5000.rank)
  concatenates_S2x5000x1_S2x5000x1_S2x5000x1_S2x5000x1_S2x5000x4_d2 : Shape.Concatenates [S2x5000x1, S2x5000x1, S2x5000x1, S2x5000x1] S2x5000x4 2
  slices_S2x4_S2x1_0_0 : S2x4.Slices ![0, 0] S2x1
  slices_S2x4_S2x1_0_1 : S2x4.Slices ![0, 1] S2x1
  slices_S2x4_S2x1_0_2 : S2x4.Slices ![0, 2] S2x1
  slices_S2x4_S2x1_0_3 : S2x4.Slices ![0, 3] S2x1
  bcast_S2x1_S2x5000_0_1 : S2x1.BroadcastsInDim S2x5000 (![0, 1] : Fin 2 → Fin S2x5000.rank)
  gather_S2x5000x81x4_S2x5000x1x1_S2x5000x1x4_3_2_01_01_2_3_1114_wf : GatherDims.WF S2x5000x81x4 S2x5000x1x1 S2x5000x1x4 [3] [2] [0, 1] [2] [0, 1] 3 ![1, 1, 1, 4]

variable [Facts]

def gather_S2x5000x81x4_S2x5000x1x1_S2x5000x1x4_3_2_01_01_2_3_1114 : GatherDims S2x5000x81x4 S2x5000x1x1 S2x5000x1x4 where
  offsetDims := [3]
  collapsedSliceDims := [2]
  operandBatchingDims := [0, 1]
  startIndicesBatchingDims := [0, 1]
  startIndexMap := [2]
  indexVectorDim := 3
  sliceSizes := ![1, 1, 1, 4]
  wf := gather_S2x5000x81x4_S2x5000x1x1_S2x5000x1x4_3_2_01_01_2_3_1114_wf

noncomputable abbrev lit0 : Fin 4 → BitVec 32 := fun
  | 0 => 0x00000000#32 | 1 => 0x00000000#32 | 2 => 0x3F800000#32 | 3 => 0x3F800000#32
  | _ => 0#32

noncomputable abbrev lit1 : Fin 4 → BitVec 32 := fun
  | 0 => 0x3DCCCCCD#32 | 1 => 0x3DCCCCCD#32 | 2 => 0x3E4CCCCD#32 | 3 => 0x3E4CCCCD#32
  | _ => 0#32

def fn_where {F : FTy → Type} [FloatOps F] (arg0 : IVec S2x5000x81 1) (arg1 : IVec S81 32) (arg2 : IVec S_ 32) : IVec S2x5000x81 32 :=
  let v0 : IVec S_ 32 := id arg2
  let v1 : IVec S2x5000x81 32 := broadcastInDim S2x5000x81 ![2] bcast_S81_S2x5000x81_2 arg1
  let v2 : IVec S2x5000x81 32 := broadcastInDim S2x5000x81 ![] bcast_S_S2x5000x81 v0
  let v3 : IVec S2x5000x81 32 := select arg0 v1 v2
  v3

def fn_take_along_axis {F : FTy → Type} [FloatOps F] (arg0 : FVec F S2x5000x81x4 .f32) (arg1 : IVec S2x5000x1x1 32) : FVec F S2x5000x1x4 .f32 :=
  let c : IVec S_ 32 := constantI S_ 32 0#32
  let v0 : IVec S2x5000x1x1 32 := broadcastInDim S2x5000x1x1 ![] bcast_S_S2x5000x1x1 c
  let v1 : IVec S2x5000x1x1 1 := cmpi .slt arg1 v0
  let c_0 : IVec S_ 32 := constantI S_ 32 81#32
  let v2 : IVec S2x5000x1x1 32 := broadcastInDim S2x5000x1x1 ![] bcast_S_S2x5000x1x1 c_0
  let v3 : IVec S2x5000x1x1 32 := addi arg1 v2
  let v4 : IVec S2x5000x1x1 32 := select v1 v3 arg1
  let v5 : FVec F S2x5000x1x4 .f32 := (fun x i => Host.gather gather_S2x5000x81x4_S2x5000x1x1_S2x5000x1x4_3_2_01_01_2_3_1114 x i) arg0 v4
  v5

def fn_part8 {F : FTy → Type} [FloatOps F] (main_v122 : IVec S2x5000 1) (main_v149 : FVec F S2x5000 .f32) (main_v173 : FVec F S2x5000 .f32) (main_cst_15 : FVec F S_ .f32) : IVec S2x5000 1 :=
  let main_v174 : FVec F S2x5000 .f32 := broadcastInDim S2x5000 ![] bcast_S_S2x5000 main_cst_15
  let main_v175 : FVec F S2x5000 .f32 := maximumf main_v173 main_v174
  let main_v176 : FVec F S2x5000 .f32 := Host.divf main_v149 main_v175
  let main_cst_16 : FVec F S_ .f32 := constant S_ .f32 0x3E99999A#32
  let main_v177 : FVec F S2x5000 .f32 := broadcastInDim S2x5000 ![] bcast_S_S2x5000 main_cst_16
  let main_v178 : IVec S2x5000 1 := cmpf .ogt main_v176 main_v177
  let main_v179 : IVec S2x5000 1 := ori main_v122 main_v178
  main_v179

def fn_part7 {F : FTy → Type} [FloatOps F] (main_v116 : FVec F S2x5000x4 .f32) (main_v122 : IVec S2x5000 1) (main_v149 : FVec F S2x5000 .f32) (main_v150 : FVec F S2x5000x1 .f32) : IVec S2x5000 1 :=
  let main_v151 : FVec F S2x5000 .f32 := shapeCast S2x5000 main_v150 shapeCasts_S2x5000x1_S2x5000
  let main_v152 : FVec F S2x5000x1 .f32 := (extractStridedSlice S2x5000x1 ![0, 0, 0] · slices_S2x5000x4_S2x5000x1_0_0_0) main_v116
  let main_v153 : FVec F S2x5000 .f32 := shapeCast S2x5000 main_v152 shapeCasts_S2x5000x1_S2x5000
  let main_v154 : FVec F S2x5000 .f32 := subf main_v151 main_v153
  let main_v155 : FVec F S2x5000x1 .f32 := (extractStridedSlice S2x5000x1 ![0, 0, 3] · slices_S2x5000x4_S2x5000x1_0_0_3) main_v116
  let main_v156 : FVec F S2x5000 .f32 := shapeCast S2x5000 main_v155 shapeCasts_S2x5000x1_S2x5000
  let main_v157 : FVec F S2x5000x1 .f32 := (extractStridedSlice S2x5000x1 ![0, 0, 1] · slices_S2x5000x4_S2x5000x1_0_0_1) main_v116
  let main_v158 : FVec F S2x5000 .f32 := shapeCast S2x5000 main_v157 shapeCasts_S2x5000x1_S2x5000
  let main_v159 : FVec F S2x5000 .f32 := subf main_v156 main_v158
  let main_v160 : FVec F S2x5000 .f32 := mulf main_v154 main_v159
  let main_v161 : FVec F S2x5000x1 .f32 := (extractStridedSlice S2x5000x1 ![0, 0, 2] · slices_S2x5000x4_S2x5000x1_0_0_2) main_v116
  let main_v162 : FVec F S2x5000 .f32 := shapeCast S2x5000 main_v161 shapeCasts_S2x5000x1_S2x5000
  let main_v163 : FVec F S2x5000x1 .f32 := (extractStridedSlice S2x5000x1 ![0, 0, 0] · slices_S2x5000x4_S2x5000x1_0_0_0) main_v116
  let main_v164 : FVec F S2x5000 .f32 := shapeCast S2x5000 main_v163 shapeCasts_S2x5000x1_S2x5000
  let main_v165 : FVec F S2x5000 .f32 := subf main_v162 main_v164
  let main_v166 : FVec F S2x5000x1 .f32 := (extractStridedSlice S2x5000x1 ![0, 0, 3] · slices_S2x5000x4_S2x5000x1_0_0_3) main_v116
  let main_v167 : FVec F S2x5000 .f32 := shapeCast S2x5000 main_v166 shapeCasts_S2x5000x1_S2x5000
  let main_v168 : FVec F S2x5000x1 .f32 := (extractStridedSlice S2x5000x1 ![0, 0, 1] · slices_S2x5000x4_S2x5000x1_0_0_1) main_v116
  let main_v169 : FVec F S2x5000 .f32 := shapeCast S2x5000 main_v168 shapeCasts_S2x5000x1_S2x5000
  let main_v170 : FVec F S2x5000 .f32 := subf main_v167 main_v169
  let main_v171 : FVec F S2x5000 .f32 := mulf main_v165 main_v170
  let main_v172 : FVec F S2x5000 .f32 := addf main_v160 main_v171
  let main_v173 : FVec F S2x5000 .f32 := subf main_v172 main_v149
  let main_cst_15 : FVec F S_ .f32 := constant S_ .f32 0x2EDBE6FF#32
  fn_part8 (F := F) main_v122 main_v149 main_v173 main_cst_15

def fn_part6 {F : FTy → Type} [FloatOps F] (main_v116 : FVec F S2x5000x4 .f32) (main_v122 : IVec S2x5000 1) (main_v127 : FVec F S2x5000 .f32) (main_v128 : FVec F S2x5000x1 .f32) : IVec S2x5000 1 :=
  let main_v129 : FVec F S2x5000 .f32 := shapeCast S2x5000 main_v128 shapeCasts_S2x5000x1_S2x5000
  let main_v130 : FVec F S2x5000x1 .f32 := (extractStridedSlice S2x5000x1 ![0, 0, 1] · slices_S2x5000x4_S2x5000x1_0_0_1) main_v116
  let main_v131 : FVec F S2x5000 .f32 := shapeCast S2x5000 main_v130 shapeCasts_S2x5000x1_S2x5000
  let main_v132 : FVec F S2x5000 .f32 := maximumf main_v129 main_v131
  let main_v133 : FVec F S2x5000x1 .f32 := (extractStridedSlice S2x5000x1 ![0, 0, 2] · slices_S2x5000x4_S2x5000x1_0_0_2) main_v116
  let main_v134 : FVec F S2x5000 .f32 := shapeCast S2x5000 main_v133 shapeCasts_S2x5000x1_S2x5000
  let main_v135 : FVec F S2x5000x1 .f32 := (extractStridedSlice S2x5000x1 ![0, 0, 2] · slices_S2x5000x4_S2x5000x1_0_0_2) main_v116
  let main_v136 : FVec F S2x5000 .f32 := shapeCast S2x5000 main_v135 shapeCasts_S2x5000x1_S2x5000
  let main_v137 : FVec F S2x5000 .f32 := minimumf main_v134 main_v136
  let main_v138 : FVec F S2x5000x1 .f32 := (extractStridedSlice S2x5000x1 ![0, 0, 3] · slices_S2x5000x4_S2x5000x1_0_0_3) main_v116
  let main_v139 : FVec F S2x5000 .f32 := shapeCast S2x5000 main_v138 shapeCasts_S2x5000x1_S2x5000
  let main_v140 : FVec F S2x5000x1 .f32 := (extractStridedSlice S2x5000x1 ![0, 0, 3] · slices_S2x5000x4_S2x5000x1_0_0_3) main_v116
  let main_v141 : FVec F S2x5000 .f32 := shapeCast S2x5000 main_v140 shapeCasts_S2x5000x1_S2x5000
  let main_v142 : FVec F S2x5000 .f32 := minimumf main_v139 main_v141
  let main_v143 : FVec F S2x5000 .f32 := subf main_v137 main_v127
  let main_cst_13 : FVec F S_ .f32 := constant S_ .f32 0x00000000#32
  let main_v144 : FVec F S2x5000 .f32 := broadcastInDim S2x5000 ![] bcast_S_S2x5000 main_cst_13
  let main_v145 : FVec F S2x5000 .f32 := maximumf main_v143 main_v144
  let main_v146 : FVec F S2x5000 .f32 := subf main_v142 main_v132
  let main_cst_14 : FVec F S_ .f32 := constant S_ .f32 0x00000000#32
  let main_v147 : FVec F S2x5000 .f32 := broadcastInDim S2x5000 ![] bcast_S_S2x5000 main_cst_14
  let main_v148 : FVec F S2x5000 .f32 := maximumf main_v146 main_v147
  let main_v149 : FVec F S2x5000 .f32 := mulf main_v145 main_v148
  let main_v150 : FVec F S2x5000x1 .f32 := (extractStridedSlice S2x5000x1 ![0, 0, 2] · slices_S2x5000x4_S2x5000x1_0_0_2) main_v116
  fn_part7 (F := F) main_v116 main_v122 main_v149 main_v150

def fn_part5 {F : FTy → Type} [FloatOps F] (main_v22 : FVec F S2x5000 .f32) (main_v28 : IVec S2x5000 32) (main_v85 : FVec F S2x1 .f32) (main_v87 : FVec F S2x1 .f32) (main_v93 : FVec F S2x5000 .f32) (main_v99 : FVec F S2x5000 .f32) (main_v105 : FVec F S2x5000 .f32) (main_v106 : FVec F S2x5000x1 .f32) : IVec S2x5000 1 :=
  let main_v107 : FVec F S2x5000 .f32 := shapeCast S2x5000 main_v106 shapeCasts_S2x5000x1_S2x5000
  let main_v108 : FVec F S2x5000 .f32 := broadcastInDim S2x5000 ![0, 1] bcast_S2x1_S2x5000_0_1 main_v85
  let main_v109 : FVec F S2x5000 .f32 := maximumf main_v107 main_v108
  let main_v110 : FVec F S2x5000 .f32 := broadcastInDim S2x5000 ![0, 1] bcast_S2x1_S2x5000_0_1 main_v87
  let main_v111 : FVec F S2x5000 .f32 := minimumf main_v109 main_v110
  let main_v112 : FVec F S2x5000x1 .f32 := broadcastInDim S2x5000x1 ![0, 1] bcast_S2x5000_S2x5000x1_0_1 main_v93
  let main_v113 : FVec F S2x5000x1 .f32 := broadcastInDim S2x5000x1 ![0, 1] bcast_S2x5000_S2x5000x1_0_1 main_v99
  let main_v114 : FVec F S2x5000x1 .f32 := broadcastInDim S2x5000x1 ![0, 1] bcast_S2x5000_S2x5000x1_0_1 main_v105
  let main_v115 : FVec F S2x5000x1 .f32 := broadcastInDim S2x5000x1 ![0, 1] bcast_S2x5000_S2x5000x1_0_1 main_v111
  let main_v116 : FVec F S2x5000x4 .f32 := concatenate S2x5000x4 2 [⟨S2x5000x1, main_v112⟩, ⟨S2x5000x1, main_v113⟩, ⟨S2x5000x1, main_v114⟩, ⟨S2x5000x1, main_v115⟩] concatenates_S2x5000x1_S2x5000x1_S2x5000x1_S2x5000x1_S2x5000x4_d2
  let main_c_11 : IVec S_ 32 := constantI S_ 32 0#32
  let main_v117 : IVec S2x5000 32 := broadcastInDim S2x5000 ![] bcast_S_S2x5000 main_c_11
  let main_v118 : IVec S2x5000 1 := cmpi .sgt main_v28 main_v117
  let main_cst_12 : FVec F S_ .f32 := constant S_ .f32 0x3F333333#32
  let main_v119 : FVec F S2x5000 .f32 := broadcastInDim S2x5000 ![] bcast_S_S2x5000 main_cst_12
  let main_v120 : IVec S2x5000 1 := cmpf .oge main_v22 main_v119
  let main_v121 : IVec S2x5000 1 := andi main_v118 main_v120
  let main_v122 : IVec S2x5000 1 := noti main_v121
  let main_v123 : FVec F S2x5000x1 .f32 := (extractStridedSlice S2x5000x1 ![0, 0, 0] · slices_S2x5000x4_S2x5000x1_0_0_0) main_v116
  let main_v124 : FVec F S2x5000 .f32 := shapeCast S2x5000 main_v123 shapeCasts_S2x5000x1_S2x5000
  let main_v125 : FVec F S2x5000x1 .f32 := (extractStridedSlice S2x5000x1 ![0, 0, 0] · slices_S2x5000x4_S2x5000x1_0_0_0) main_v116
  let main_v126 : FVec F S2x5000 .f32 := shapeCast S2x5000 main_v125 shapeCasts_S2x5000x1_S2x5000
  let main_v127 : FVec F S2x5000 .f32 := maximumf main_v124 main_v126
  let main_v128 : FVec F S2x5000x1 .f32 := (extractStridedSlice S2x5000x1 ![0, 0, 1] · slices_S2x5000x4_S2x5000x1_0_0_1) main_v116
  fn_part6 (F := F) main_v116 main_v122 main_v127 main_v128

def fn_part4 {F : FTy → Type} [FloatOps F] (main_v21 : FVec F S2x4 .f32) (main_v22 : FVec F S2x5000 .f32) (main_v28 : IVec S2x5000 32) (main_v79 : FVec F S2x5000x1 .f32) (main_v80 : FVec F S2x5000x1 .f32) (main_v81 : FVec F S2x5000x1 .f32) (main_v82 : FVec F S2x5000x1 .f32) : IVec S2x5000 1 :=
  let main_v83 : FVec F S2x5000x4 .f32 := concatenate S2x5000x4 2 [⟨S2x5000x1, main_v79⟩, ⟨S2x5000x1, main_v80⟩, ⟨S2x5000x1, main_v81⟩, ⟨S2x5000x1, main_v82⟩] concatenates_S2x5000x1_S2x5000x1_S2x5000x1_S2x5000x1_S2x5000x4_d2
  let main_v84 : FVec F S2x1 .f32 := (extractStridedSlice S2x1 ![0, 0] · slices_S2x4_S2x1_0_0) main_v21
  let main_v85 : FVec F S2x1 .f32 := (extractStridedSlice S2x1 ![0, 1] · slices_S2x4_S2x1_0_1) main_v21
  let main_v86 : FVec F S2x1 .f32 := (extractStridedSlice S2x1 ![0, 2] · slices_S2x4_S2x1_0_2) main_v21
  let main_v87 : FVec F S2x1 .f32 := (extractStridedSlice S2x1 ![0, 3] · slices_S2x4_S2x1_0_3) main_v21
  let main_v88 : FVec F S2x5000x1 .f32 := (extractStridedSlice S2x5000x1 ![0, 0, 0] · slices_S2x5000x4_S2x5000x1_0_0_0) main_v83
  let main_v89 : FVec F S2x5000 .f32 := shapeCast S2x5000 main_v88 shapeCasts_S2x5000x1_S2x5000
  let main_v90 : FVec F S2x5000 .f32 := broadcastInDim S2x5000 ![0, 1] bcast_S2x1_S2x5000_0_1 main_v84
  let main_v91 : FVec F S2x5000 .f32 := maximumf main_v89 main_v90
  let main_v92 : FVec F S2x5000 .f32 := broadcastInDim S2x5000 ![0, 1] bcast_S2x1_S2x5000_0_1 main_v86
  let main_v93 : FVec F S2x5000 .f32 := minimumf main_v91 main_v92
  let main_v94 : FVec F S2x5000x1 .f32 := (extractStridedSlice S2x5000x1 ![0, 0, 1] · slices_S2x5000x4_S2x5000x1_0_0_1) main_v83
  let main_v95 : FVec F S2x5000 .f32 := shapeCast S2x5000 main_v94 shapeCasts_S2x5000x1_S2x5000
  let main_v96 : FVec F S2x5000 .f32 := broadcastInDim S2x5000 ![0, 1] bcast_S2x1_S2x5000_0_1 main_v85
  let main_v97 : FVec F S2x5000 .f32 := maximumf main_v95 main_v96
  let main_v98 : FVec F S2x5000 .f32 := broadcastInDim S2x5000 ![0, 1] bcast_S2x1_S2x5000_0_1 main_v87
  let main_v99 : FVec F S2x5000 .f32 := minimumf main_v97 main_v98
  let main_v100 : FVec F S2x5000x1 .f32 := (extractStridedSlice S2x5000x1 ![0, 0, 2] · slices_S2x5000x4_S2x5000x1_0_0_2) main_v83
  let main_v101 : FVec F S2x5000 .f32 := shapeCast S2x5000 main_v100 shapeCasts_S2x5000x1_S2x5000
  let main_v102 : FVec F S2x5000 .f32 := broadcastInDim S2x5000 ![0, 1] bcast_S2x1_S2x5000_0_1 main_v84
  let main_v103 : FVec F S2x5000 .f32 := maximumf main_v101 main_v102
  let main_v104 : FVec F S2x5000 .f32 := broadcastInDim S2x5000 ![0, 1] bcast_S2x1_S2x5000_0_1 main_v86
  let main_v105 : FVec F S2x5000 .f32 := minimumf main_v103 main_v104
  let main_v106 : FVec F S2x5000x1 .f32 := (extractStridedSlice S2x5000x1 ![0, 0, 3] · slices_S2x5000x4_S2x5000x1_0_0_3) main_v83
  fn_part5 (F := F) main_v22 main_v28 main_v85 main_v87 main_v93 main_v99 main_v105 main_v106

def fn_part3 {F : FTy → Type} [FloatOps F] (main_v21 : FVec F S2x4 .f32) (main_v22 : FVec F S2x5000 .f32) (main_v28 : IVec S2x5000 32) (main_v34 : FVec F S2x5000x4 .f32) (main_v39 : FVec F S2x5000 .f32) (main_v44 : FVec F S2x5000 .f32) (main_v54 : FVec F S2x5000 .f32) (main_v58 : FVec F S2x5000 .f32) (main_v60 : FVec F S2x5000 .f32) : IVec S2x5000 1 :=
  let main_v61 : FVec F S2x5000 .f32 := mulf main_v60 main_v44
  let main_v62 : FVec F S2x5000 .f32 := addf main_v54 main_v61
  let main_v63 : FVec F S2x5000x1 .f32 := (extractStridedSlice S2x5000x1 ![0, 0, 2] · slices_S2x5000x4_S2x5000x1_0_0_2) main_v34
  let main_v64 : FVec F S2x5000 .f32 := shapeCast S2x5000 main_v63 shapeCasts_S2x5000x1_S2x5000
  let main_v65 : FVec F S2x5000 .f32 := Host.exp main_v64
  let main_v66 : FVec F S2x5000 .f32 := mulf main_v39 main_v65
  let main_v67 : FVec F S2x5000x1 .f32 := (extractStridedSlice S2x5000x1 ![0, 0, 3] · slices_S2x5000x4_S2x5000x1_0_0_3) main_v34
  let main_v68 : FVec F S2x5000 .f32 := shapeCast S2x5000 main_v67 shapeCasts_S2x5000x1_S2x5000
  let main_v69 : FVec F S2x5000 .f32 := Host.exp main_v68
  let main_v70 : FVec F S2x5000 .f32 := mulf main_v44 main_v69
  let main_cst_9 : FVec F S_ .f32 := constant S_ .f32 0x3F000000#32
  let main_v71 : FVec F S2x5000 .f32 := broadcastInDim S2x5000 ![] bcast_S_S2x5000 main_cst_9
  let main_v72 : FVec F S2x5000 .f32 := mulf main_v71 main_v66
  let main_v73 : FVec F S2x5000 .f32 := subf main_v58 main_v72
  let main_cst_10 : FVec F S_ .f32 := constant S_ .f32 0x3F000000#32
  let main_v74 : FVec F S2x5000 .f32 := broadcastInDim S2x5000 ![] bcast_S_S2x5000 main_cst_10
  let main_v75 : FVec F S2x5000 .f32 := mulf main_v74 main_v70
  let main_v76 : FVec F S2x5000 .f32 := subf main_v62 main_v75
  let main_v77 : FVec F S2x5000 .f32 := addf main_v73 main_v66
  let main_v78 : FVec F S2x5000 .f32 := addf main_v76 main_v70
  let main_v79 : FVec F S2x5000x1 .f32 := broadcastInDim S2x5000x1 ![0, 1] bcast_S2x5000_S2x5000x1_0_1 main_v73
  let main_v80 : FVec F S2x5000x1 .f32 := broadcastInDim S2x5000x1 ![0, 1] bcast_S2x5000_S2x5000x1_0_1 main_v76
  let main_v81 : FVec F S2x5000x1 .f32 := broadcastInDim S2x5000x1 ![0, 1] bcast_S2x5000_S2x5000x1_0_1 main_v77
  let main_v82 : FVec F S2x5000x1 .f32 := broadcastInDim S2x5000x1 ![0, 1] bcast_S2x5000_S2x5000x1_0_1 main_v78
  fn_part4 (F := F) main_v21 main_v22 main_v28 main_v79 main_v80 main_v81 main_v82

def fn_part2 {F : FTy → Type} [FloatOps F] (main_arg0 : FVec F S2x5000x4 .f32) (main_v21 : FVec F S2x4 .f32) (main_v22 : FVec F S2x5000 .f32) (main_v28 : IVec S2x5000 32) (main_v34 : FVec F S2x5000x4 .f32) (main_v36 : FVec F S2x5000 .f32) (main_v38 : FVec F S2x5000 .f32) : IVec S2x5000 1 :=
  let main_v39 : FVec F S2x5000 .f32 := subf main_v36 main_v38
  let main_v40 : FVec F S2x5000x1 .f32 := (extractStridedSlice S2x5000x1 ![0, 0, 3] · slices_S2x5000x4_S2x5000x1_0_0_3) main_arg0
  let main_v41 : FVec F S2x5000 .f32 := shapeCast S2x5000 main_v40 shapeCasts_S2x5000x1_S2x5000
  let main_v42 : FVec F S2x5000x1 .f32 := (extractStridedSlice S2x5000x1 ![0, 0, 1] · slices_S2x5000x4_S2x5000x1_0_0_1) main_arg0
  let main_v43 : FVec F S2x5000 .f32 := shapeCast S2x5000 main_v42 shapeCasts_S2x5000x1_S2x5000
  let main_v44 : FVec F S2x5000 .f32 := subf main_v41 main_v43
  let main_v45 : FVec F S2x5000x1 .f32 := (extractStridedSlice S2x5000x1 ![0, 0, 0] · slices_S2x5000x4_S2x5000x1_0_0_0) main_arg0
  let main_v46 : FVec F S2x5000 .f32 := shapeCast S2x5000 main_v45 shapeCasts_S2x5000x1_S2x5000
  let main_cst_7 : FVec F S_ .f32 := constant S_ .f32 0x3F000000#32
  let main_v47 : FVec F S2x5000 .f32 := broadcastInDim S2x5000 ![] bcast_S_S2x5000 main_cst_7
  let main_v48 : FVec F S2x5000 .f32 := mulf main_v47 main_v39
  let main_v49 : FVec F S2x5000 .f32 := addf main_v46 main_v48
  let main_v50 : FVec F S2x5000x1 .f32 := (extractStridedSlice S2x5000x1 ![0, 0, 1] · slices_S2x5000x4_S2x5000x1_0_0_1) main_arg0
  let main_v51 : FVec F S2x5000 .f32 := shapeCast S2x5000 main_v50 shapeCasts_S2x5000x1_S2x5000
  let main_cst_8 : FVec F S_ .f32 := constant S_ .f32 0x3F000000#32
  let main_v52 : FVec F S2x5000 .f32 := broadcastInDim S2x5000 ![] bcast_S_S2x5000 main_cst_8
  let main_v53 : FVec F S2x5000 .f32 := mulf main_v52 main_v44
  let main_v54 : FVec F S2x5000 .f32 := addf main_v51 main_v53
  let main_v55 : FVec F S2x5000x1 .f32 := (extractStridedSlice S2x5000x1 ![0, 0, 0] · slices_S2x5000x4_S2x5000x1_0_0_0) main_v34
  let main_v56 : FVec F S2x5000 .f32 := shapeCast S2x5000 main_v55 shapeCasts_S2x5000x1_S2x5000
  let main_v57 : FVec F S2x5000 .f32 := mulf main_v56 main_v39
  let main_v58 : FVec F S2x5000 .f32 := addf main_v49 main_v57
  let main_v59 : FVec F S2x5000x1 .f32 := (extractStridedSlice S2x5000x1 ![0, 0, 1] · slices_S2x5000x4_S2x5000x1_0_0_1) main_v34
  let main_v60 : FVec F S2x5000 .f32 := shapeCast S2x5000 main_v59 shapeCasts_S2x5000x1_S2x5000
  fn_part3 (F := F) main_v21 main_v22 main_v28 main_v34 main_v39 main_v44 main_v54 main_v58 main_v60

def fn_part1 {F : FTy → Type} [FloatOps F] (main_arg0 : FVec F S2x5000x4 .f32) (main_arg1 : FVec F S2x5000x81 .f32) (main_arg2 : FVec F S2x5000x81x4 .f32) (main_cst_0 : FVec F S4 .f32) (main_v14 : FVec F S4 .f32) (main_v15 : FVec F S2x4 .f32) (main_v17 : FVec F S2x4 .f32) : IVec S2x5000 1 :=
  let main_v18 : FVec F S2x4 .f32 := subf main_v15 main_v17
  let main_v19 : FVec F S1x4 .f32 := broadcastInDim S1x4 ![1] bcast_S4_S1x4_1 main_v14
  let main_v20 : FVec F S2x4 .f32 := broadcastInDim S2x4 ![0, 1] bcast_S1x4_S2x4_0_1 main_v19
  let main_v21 : FVec F S2x4 .f32 := Host.divf main_v18 main_v20
  let main_cst_5 : FVec F S_ .f32 := constant S_ .f32 0xFF800000#32
  let main_v22 : FVec F S2x5000 .f32 := (fun x v => Host.reduce FloatOps.maximumf x v reducesTo_S2x5000x81_S2x5000_d2 h_S_) main_arg1 main_cst_5
  let main_v23 : FVec F S2x5000x1 .f32 := broadcastInDim S2x5000x1 ![0, 1] bcast_S2x5000_S2x5000x1_0_1 main_v22
  let main_v24 : FVec F S2x5000x81 .f32 := broadcastInDim S2x5000x81 ![0, 1, 2] bcast_S2x5000x1_S2x5000x81_0_1_2 main_v23
  let main_v25 : IVec S2x5000x81 1 := cmpf .oeq main_arg1 main_v24
  let main_v26 : IVec S81 32 := iotaInDim S81 32 0
  let main_c : IVec S_ 32 := constantI S_ 32 81#32
  let main_v27 : IVec S2x5000x81 32 := fn_where (F := F) main_v25 main_v26 main_c
  let main_c_6 : IVec S_ 32 := constantI S_ 32 2147483647#32
  let main_v28 : IVec S2x5000 32 := (fun x v => Host.reduce IntOp.minsi x v reducesTo_S2x5000x81_S2x5000_d2 h_S_) main_v27 main_c_6
  let main_v29 : IVec S2x5000x1x1 32 := broadcastInDim S2x5000x1x1 ![0, 1] bcast_S2x5000_S2x5000x1x1_0_1 main_v28
  let main_v30 : FVec F S2x5000x1x4 .f32 := fn_take_along_axis (F := F) main_arg2 main_v29
  let main_v31 : FVec F S2x5000x4 .f32 := shapeCast S2x5000x4 main_v30 shapeCasts_S2x5000x1x4_S2x5000x4
  let main_v32 : FVec F S1x1x4 .f32 := broadcastInDim S1x1x4 ![2] bcast_S4_S1x1x4_2 main_cst_0
  let main_v33 : FVec F S2x5000x4 .f32 := broadcastInDim S2x5000x4 ![0, 1, 2] bcast_S1x1x4_S2x5000x4_0_1_2 main_v32
  let main_v34 : FVec F S2x5000x4 .f32 := mulf main_v31 main_v33
  let main_v35 : FVec F S2x5000x1 .f32 := (extractStridedSlice S2x5000x1 ![0, 0, 2] · slices_S2x5000x4_S2x5000x1_0_0_2) main_arg0
  let main_v36 : FVec F S2x5000 .f32 := shapeCast S2x5000 main_v35 shapeCasts_S2x5000x1_S2x5000
  let main_v37 : FVec F S2x5000x1 .f32 := (extractStridedSlice S2x5000x1 ![0, 0, 0] · slices_S2x5000x4_S2x5000x1_0_0_0) main_arg0
  let main_v38 : FVec F S2x5000 .f32 := shapeCast S2x5000 main_v37 shapeCasts_S2x5000x1_S2x5000
  fn_part2 (F := F) main_arg0 main_v21 main_v22 main_v28 main_v34 main_v36 main_v38

def fn {F : FTy → Type} [FloatOps F] (main_arg0 : FVec F S2x5000x4 .f32) (main_arg1 : FVec F S2x5000x81 .f32) (main_arg2 : FVec F S2x5000x81x4 .f32) (main_arg3 : FVec F S2x93 .f32) : IVec S2x5000 1 :=
  let main_cst : FVec F S4 .f32 := fun i => FloatOps.ofBits .f32 (lit0 (S4.rowMajor i))
  let main_cst_0 : FVec F S4 .f32 := fun i => FloatOps.ofBits .f32 (lit1 (S4.rowMajor i))
  let main_v0 : FVec F S1x3 .f32 := (extractStridedSlice S1x3 ![0, 4] · slices_S2x93_S1x3_0_4) main_arg3
  let main_v1 : FVec F S3 .f32 := shapeCast S3 main_v0 shapeCasts_S1x3_S3
  let main_v2 : FVec F S1 .f32 := (extractStridedSlice S1 ![0] · slices_S3_S1_0) main_v1
  let main_v3 : FVec F S_ .f32 := shapeCast S_ main_v2 shapeCasts_S1_S_
  let main_v4 : FVec F S1 .f32 := (extractStridedSlice S1 ![1] · slices_S3_S1_1) main_v1
  let main_v5 : FVec F S_ .f32 := shapeCast S_ main_v4 shapeCasts_S1_S_
  let main_cst_1 : FVec F S_ .f32 := constant S_ .f32 0x3F800000#32
  let main_v6 : FVec F S_ .f32 := subf main_v3 main_cst_1
  let main_cst_2 : FVec F S_ .f32 := constant S_ .f32 0x3F800000#32
  let main_v7 : FVec F S_ .f32 := subf main_v5 main_cst_2
  let main_cst_3 : FVec F S_ .f32 := constant S_ .f32 0x3F800000#32
  let main_v8 : FVec F S_ .f32 := subf main_v3 main_cst_3
  let main_cst_4 : FVec F S_ .f32 := constant S_ .f32 0x3F800000#32
  let main_v9 : FVec F S_ .f32 := subf main_v5 main_cst_4
  let main_v10 : FVec F S1 .f32 := broadcastInDim S1 ![] bcast_S_S1 main_v6
  let main_v11 : FVec F S1 .f32 := broadcastInDim S1 ![] bcast_S_S1 main_v7
  let main_v12 : FVec F S1 .f32 := broadcastInDim S1 ![] bcast_S_S1 main_v8
  let main_v13 : FVec F S1 .f32 := broadcastInDim S1 ![] bcast_S_S1 main_v9
  let main_v14 : FVec F S4 .f32 := concatenate S4 0 [⟨S1, main_v10⟩, ⟨S1, main_v11⟩, ⟨S1, main_v12⟩, ⟨S1, main_v13⟩] concatenates_S1_S1_S1_S1_S4_d0
  let main_v15 : FVec F S2x4 .f32 := (extractStridedSlice S2x4 ![0, 7] · slices_S2x93_S2x4_0_7) main_arg3
  let main_v16 : FVec F S1x4 .f32 := broadcastInDim S1x4 ![1] bcast_S4_S1x4_1 main_cst
  let main_v17 : FVec F S2x4 .f32 := broadcastInDim S2x4 ![0, 1] bcast_S1x4_S2x4_0_1 main_v16
  fn_part1 (F := F) main_arg0 main_arg1 main_arg2 main_cst_0 main_v14 main_v15 main_v17
-- ==== Kernel.lean ====
abbrev S2x5000x4 : Shape := ⟨3, ![2, 5000, 4]⟩
abbrev S2x5000x81 : Shape := ⟨3, ![2, 5000, 81]⟩
abbrev S2x5000x81x4 : Shape := ⟨4, ![2, 5000, 81, 4]⟩
abbrev S2x93 : Shape := ⟨2, ![2, 93]⟩
abbrev S4 : Shape := ⟨1, ![4]⟩
abbrev S1x3 : Shape := ⟨2, ![1, 3]⟩
abbrev S3 : Shape := ⟨1, ![3]⟩
abbrev S1 : Shape := ⟨1, ![1]⟩
abbrev S_ : Shape := ⟨0, ![]⟩
abbrev S2x4 : Shape := ⟨2, ![2, 4]⟩
abbrev S1x4 : Shape := ⟨2, ![1, 4]⟩
abbrev S2x1x4 : Shape := ⟨3, ![2, 1, 4]⟩
abbrev S2x5000x324 : Shape := ⟨3, ![2, 5000, 324]⟩
abbrev S2x5000x8 : Shape := ⟨3, ![2, 5000, 8]⟩
abbrev S1x1000x4 : Shape := ⟨3, ![1, 1000, 4]⟩
abbrev S1x1000x81 : Shape := ⟨3, ![1, 1000, 81]⟩
abbrev S1x1000x324 : Shape := ⟨3, ![1, 1000, 324]⟩
abbrev S1x1x4 : Shape := ⟨3, ![1, 1, 4]⟩
abbrev S1x1000x8 : Shape := ⟨3, ![1, 1000, 8]⟩
abbrev S1000x81 : Shape := ⟨2, ![1000, 81]⟩
abbrev S1000 : Shape := ⟨1, ![1000]⟩
abbrev S1000x1 : Shape := ⟨2, ![1000, 1]⟩
abbrev S1000x324 : Shape := ⟨2, ![1000, 324]⟩
abbrev S1000x2 : Shape := ⟨2, ![1000, 2]⟩
abbrev S1000x4 : Shape := ⟨2, ![1000, 4]⟩
abbrev S1x1x1 : Shape := ⟨3, ![1, 1, 1]⟩
abbrev S1x2 : Shape := ⟨2, ![1, 2]⟩
abbrev S1000x8 : Shape := ⟨2, ![1000, 8]⟩
abbrev S2x5120x8 : Shape := ⟨3, ![2, 5120, 8]⟩
abbrev S2x8x5120 : Shape := ⟨3, ![2, 8, 5120]⟩
abbrev S128x640 : Shape := ⟨2, ![128, 640]⟩
abbrev S2x8x128 : Shape := ⟨3, ![2, 8, 128]⟩
abbrev S8x640 : Shape := ⟨2, ![8, 640]⟩
abbrev S8x128 : Shape := ⟨2, ![8, 128]⟩
abbrev S1x8x640 : Shape := ⟨3, ![1, 8, 640]⟩
abbrev S1x1 : Shape := ⟨2, ![1, 1]⟩
abbrev S1x8x128 : Shape := ⟨3, ![1, 8, 128]⟩
abbrev S2x6x100 : Shape := ⟨3, ![2, 6, 100]⟩
abbrev S2x100x6 : Shape := ⟨3, ![2, 100, 6]⟩

abbrev nBuf : Space → Nat
  | .hbm => 42
  | .vmem => 12
  | .smem => 0
  | _ => 0

abbrev bufTy : (tb : Table) → Fin (tcTables nBuf tb) → BufTy
  | .hbm, ⟨0, _⟩ => ⟨S2x5000x4, .f32⟩
  | .hbm, ⟨1, _⟩ => ⟨S2x5000x81, .f32⟩
  | .hbm, ⟨2, _⟩ => ⟨S2x5000x81x4, .f32⟩
  | .hbm, ⟨3, _⟩ => ⟨S2x93, .f32⟩
  | .hbm, ⟨4, _⟩ => ⟨S4, .f32⟩
  | .hbm, ⟨5, _⟩ => ⟨S1x3, .f32⟩
  | .hbm, ⟨6, _⟩ => ⟨S3, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S4, .f32⟩
  | .hbm, ⟨24, _⟩ => ⟨S2x4, .f32⟩
  | .hbm, ⟨25, _⟩ => ⟨S1x4, .f32⟩
  | .hbm, ⟨26, _⟩ => ⟨S2x4, .f32⟩
  | .hbm, ⟨27, _⟩ => ⟨S2x4, .f32⟩
  | .hbm, ⟨28, _⟩ => ⟨S1x4, .f32⟩
  | .hbm, ⟨29, _⟩ => ⟨S2x4, .f32⟩
  | .hbm, ⟨30, _⟩ => ⟨S2x4, .f32⟩
  | .hbm, ⟨31, _⟩ => ⟨S2x1x4, .f32⟩
  | .hbm, ⟨32, _⟩ => ⟨S2x5000x324, .f32⟩
  | .hbm, ⟨33, _⟩ => ⟨S2x5000x8, .f32⟩
  | .hbm, ⟨34, _⟩ => ⟨S_, .f32⟩
  | .hbm, ⟨35, _⟩ => ⟨S_, .f32⟩
  | .hbm, ⟨36, _⟩ => ⟨S2x5120x8, .f32⟩
  | .hbm, ⟨37, _⟩ => ⟨S2x8x5120, .f32⟩
  | .hbm, ⟨38, _⟩ => ⟨S128x640, .f32⟩
  | .hbm, ⟨39, _⟩ => ⟨S2x8x128, .f32⟩
  | .hbm, ⟨40, _⟩ => ⟨S2x6x100, .f32⟩
  | .hbm, ⟨41, _⟩ => ⟨S2x100x6, .f32⟩
  | .local _ .vmem, ⟨0, _⟩ => ⟨S1x1000x4, .f32⟩
  | .local _ .vmem, ⟨1, _⟩ => ⟨S1x1000x4, .f32⟩
  | .local _ .vmem, ⟨2, _⟩ => ⟨S1x1000x81, .f32⟩
  | .local _ .vmem, ⟨3, _⟩ => ⟨S1x1000x81, .f32⟩
  | .local _ .vmem, ⟨4, _⟩ => ⟨S1x1000x324, .f32⟩
  | .local _ .vmem, ⟨5, _⟩ => ⟨S1x1000x324, .f32⟩
  | .local _ .vmem, ⟨6, _⟩ => ⟨S1x1x4, .f32⟩
  | .local _ .vmem, ⟨7, _⟩ => ⟨S1x1x4, .f32⟩
  | .local _ .vmem, ⟨8, _⟩ => ⟨S1x1000x8, .f32⟩
  | .local _ .vmem, ⟨9, _⟩ => ⟨S1x1000x8, .f32⟩
  | .local _ .vmem, ⟨10, _⟩ => ⟨S128x640, .f32⟩
  | .local _ .vmem, ⟨11, _⟩ => ⟨S2x8x128, .f32⟩
  | _, _ => ⟨S2x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11

abbrev nD : Nat := 1
abbrev τ : Topo := Topo.v7x

variable {F : FTy → Type} [FloatOps F]

abbrev grid0 : Pipeline.Grid := ⟨2, ![2, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1000x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x324 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := .none

@[reducible] def k1_t1_loop : Scf.Loop 32 :=
  let c0_i32 : BitVec 32 := 0#32
  let c100_i32 : BitVec 32 := 100#32
  let v39 : BitVec 32 := Scalar.addi c0_i32 c100_i32
  let c1_i32 : BitVec 32 := 1#32
  ⟨c0_i32, v39, c1_i32⟩
abbrev stage1_0 : Fin 1 → Memref sig .tc .vmem S128x640 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S2x5000x4 : Shape := ⟨3, ![2, 5000, 4]⟩
abbrev S2x5000x81 : Shape := ⟨3, ![2, 5000, 81]⟩
abbrev S2x5000x81x4 : Shape := ⟨4, ![2, 5000, 81, 4]⟩
abbrev S2x93 : Shape := ⟨2, ![2, 93]⟩
abbrev S4 : Shape := ⟨1, ![4]⟩
abbrev S1x3 : Shape := ⟨2, ![1, 3]⟩
abbrev S3 : Shape := ⟨1, ![3]⟩
abbrev S1 : Shape := ⟨1, ![1]⟩
abbrev S_ : Shape := ⟨0, ![]⟩
abbrev S2x4 : Shape := ⟨2, ![2, 4]⟩
abbrev S1x4 : Shape := ⟨2, ![1, 4]⟩
abbrev S2x5000 : Shape := ⟨2, ![2, 5000]⟩
abbrev S2x5000x1 : Shape := ⟨3, ![2, 5000, 1]⟩
abbrev S81 : Shape := ⟨1, ![81]⟩
abbrev S2x5000x1x1 : Shape := ⟨4, ![2, 5000, 1, 1]⟩
abbrev S2x5000x1x4 : Shape := ⟨4, ![2, 5000, 1, 4]⟩
abbrev S1x1x4 : Shape := ⟨3, ![1, 1, 4]⟩
abbrev S2x1 : Shape := ⟨2, ![2, 1]⟩
abbrev S80 : Shape := ⟨1, ![80]⟩
abbrev S2x1x5000 : Shape := ⟨3, ![2, 1, 5000]⟩
abbrev S1x80x1 : Shape := ⟨3, ![1, 80, 1]⟩
abbrev S2x80x5000 : Shape := ⟨3, ![2, 80, 5000]⟩
abbrev S2x80 : Shape := ⟨2, ![2, 80]⟩
abbrev S2x80x1 : Shape := ⟨3, ![2, 80, 1]⟩
abbrev S5000 : Shape := ⟨1, ![5000]⟩
abbrev S1x1x5000 : Shape := ⟨3, ![1, 1, 5000]⟩
abbrev S2x80x4 : Shape := ⟨3, ![2, 80, 4]⟩
abbrev S2x80x1x4 : Shape := ⟨4, ![2, 80, 1, 4]⟩
abbrev S2x1x5000x4 : Shape := ⟨4, ![2, 1, 5000, 4]⟩
abbrev S2x80x1x1 : Shape := ⟨4, ![2, 80, 1, 1]⟩
abbrev S2x1x5000x1 : Shape := ⟨4, ![2, 1, 5000, 1]⟩
abbrev S2x100 : Shape := ⟨2, ![2, 100]⟩
abbrev S2x5000x6 : Shape := ⟨3, ![2, 5000, 6]⟩
abbrev S2x100x1 : Shape := ⟨3, ![2, 100, 1]⟩
abbrev S2x100x6 : Shape := ⟨3, ![2, 100, 6]⟩

abbrev nBuf : Space → Nat
  | .hbm => 326
  | .vmem => 0
  | .smem => 0
  | _ => 0

abbrev hbmTy0_0 (i : Nat) : BufTy := match i % 128 with
  | 0 => ⟨S2x5000x4, .f32⟩
  | 1 => ⟨S2x5000x81, .f32⟩
  | 2 => ⟨S2x5000x81x4, .f32⟩
  | 3 => ⟨S2x93, .f32⟩
  | 4 => ⟨S4, .f32⟩
  | 5 => ⟨S4, .f32⟩
  | 6 => ⟨S1x3, .f32⟩
  | 7 => ⟨S3, .f32⟩
  | 8 => ⟨S1, .f32⟩
  | 9 => ⟨S_, .f32⟩
  | 10 => ⟨S1, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S1, .f32⟩
  | 21 => ⟨S1, .f32⟩
  | 22 => ⟨S1, .f32⟩
  | 23 => ⟨S1, .f32⟩
  | 24 => ⟨S4, .f32⟩
  | 25 => ⟨S2x4, .f32⟩
  | 26 => ⟨S1x4, .f32⟩
  | 27 => ⟨S2x4, .f32⟩
  | 28 => ⟨S2x4, .f32⟩
  | 29 => ⟨S1x4, .f32⟩
  | 30 => ⟨S2x4, .f32⟩
  | 31 => ⟨S2x4, .f32⟩
  | 32 => ⟨S_, .f32⟩
  | 33 => ⟨S2x5000, .f32⟩
  | 34 => ⟨S2x5000x1, .f32⟩
  | 35 => ⟨S2x5000x81, .f32⟩
  | 36 => ⟨S2x5000x81, .i1⟩
  | 37 => ⟨S81, .i32⟩
  | 38 => ⟨S_, .i32⟩
  | 39 => ⟨S_, .i32⟩
  | 40 => ⟨S2x5000x81, .i32⟩
  | 41 => ⟨S2x5000x81, .i32⟩
  | 42 => ⟨S2x5000x81, .i32⟩
  | 43 => ⟨S_, .i32⟩
  | 44 => ⟨S2x5000, .i32⟩
  | 45 => ⟨S2x5000x1x1, .i32⟩
  | 46 => ⟨S_, .i32⟩
  | 47 => ⟨S2x5000x1x1, .i32⟩
  | 48 => ⟨S2x5000x1x1, .i1⟩
  | 49 => ⟨S_, .i32⟩
  | 50 => ⟨S2x5000x1x1, .i32⟩
  | 51 => ⟨S2x5000x1x1, .i32⟩
  | 52 => ⟨S2x5000x1x1, .i32⟩
  | 53 => ⟨S2x5000x1x4, .f32⟩
  | 54 => ⟨S2x5000x4, .f32⟩
  | 55 => ⟨S1x1x4, .f32⟩
  | 56 => ⟨S2x5000x4, .f32⟩
  | 57 => ⟨S2x5000x4, .f32⟩
  | 58 => ⟨S2x5000x1, .f32⟩
  | 59 => ⟨S2x5000, .f32⟩
  | 60 => ⟨S2x5000x1, .f32⟩
  | 61 => ⟨S2x5000, .f32⟩
  | 62 => ⟨S2x5000, .f32⟩
  | 63 => ⟨S2x5000x1, .f32⟩
  | 64 => ⟨S2x5000, .f32⟩
  | 65 => ⟨S2x5000x1, .f32⟩
  | 66 => ⟨S2x5000, .f32⟩
  | 67 => ⟨S2x5000, .f32⟩
  | 68 => ⟨S2x5000x1, .f32⟩
  | 69 => ⟨S2x5000, .f32⟩
  | 70 => ⟨S_, .f32⟩
  | 71 => ⟨S2x5000, .f32⟩
  | 72 => ⟨S2x5000, .f32⟩
  | 73 => ⟨S2x5000, .f32⟩
  | 74 => ⟨S2x5000x1, .f32⟩
  | 75 => ⟨S2x5000, .f32⟩
  | 76 => ⟨S_, .f32⟩
  | 77 => ⟨S2x5000, .f32⟩
  | 78 => ⟨S2x5000, .f32⟩
  | 79 => ⟨S2x5000, .f32⟩
  | 80 => ⟨S2x5000x1, .f32⟩
  | 81 => ⟨S2x5000, .f32⟩
  | 82 => ⟨S2x5000, .f32⟩
  | 83 => ⟨S2x5000, .f32⟩
  | 84 => ⟨S2x5000x1, .f32⟩
  | 85 => ⟨S2x5000, .f32⟩
  | 86 => ⟨S2x5000, .f32⟩
  | 87 => ⟨S2x5000, .f32⟩
  | 88 => ⟨S2x5000x1, .f32⟩
  | 89 => ⟨S2x5000, .f32⟩
  | 90 => ⟨S2x5000, .f32⟩
  | 91 => ⟨S2x5000, .f32⟩
  | 92 => ⟨S2x5000x1, .f32⟩
  | 93 => ⟨S2x5000, .f32⟩
  | 94 => ⟨S2x5000, .f32⟩
  | 95 => ⟨S2x5000, .f32⟩
  | 96 => ⟨S_, .f32⟩
  | 97 => ⟨S2x5000, .f32⟩
  | 98 => ⟨S2x5000, .f32⟩
  | 99 => ⟨S2x5000, .f32⟩
  | 100 => ⟨S_, .f32⟩
  | 101 => ⟨S2x5000, .f32⟩
  | 102 => ⟨S2x5000, .f32⟩
  | 103 => ⟨S2x5000, .f32⟩
  | 104 => ⟨S2x5000, .f32⟩
  | 105 => ⟨S2x5000, .f32⟩
  | 106 => ⟨S2x5000x1, .f32⟩
  | 107 => ⟨S2x5000x1, .f32⟩
  | 108 => ⟨S2x5000x1, .f32⟩
  | 109 => ⟨S2x5000x1, .f32⟩
  | 110 => ⟨S2x5000x4, .f32⟩
  | 111 => ⟨S2x1, .f32⟩
  | 112 => ⟨S2x1, .f32⟩
  | 113 => ⟨S2x1, .f32⟩
  | 114 => ⟨S2x1, .f32⟩
  | 115 => ⟨S2x5000x1, .f32⟩
  | 116 => ⟨S2x5000, .f32⟩
  | 117 => ⟨S2x5000, .f32⟩
  | 118 => ⟨S2x5000, .f32⟩
  | 119 => ⟨S2x5000, .f32⟩
  | 120 => ⟨S2x5000, .f32⟩
  | 121 => ⟨S2x5000x1, .f32⟩
  | 122 => ⟨S2x5000, .f32⟩
  | 123 => ⟨S2x5000, .f32⟩
  | 124 => ⟨S2x5000, .f32⟩
  | 125 => ⟨S2x5000, .f32⟩
  | 126 => ⟨S2x5000, .f32⟩
  | 127 => ⟨S2x5000x1, .f32⟩
  | _ => ⟨S2x5000x4, .f32⟩

abbrev hbmTy0_1 (i : Nat) : BufTy := match i % 128 with
  | 0 => ⟨S2x5000, .f32⟩
  | 1 => ⟨S2x5000, .f32⟩
  | 2 => ⟨S2x5000, .f32⟩
  | 3 => ⟨S2x5000, .f32⟩
  | 4 => ⟨S2x5000, .f32⟩
  | 5 => ⟨S2x5000x1, .f32⟩
  | 6 => ⟨S2x5000, .f32⟩
  | 7 => ⟨S2x5000, .f32⟩
  | 8 => ⟨S2x5000, .f32⟩
  | 9 => ⟨S2x5000, .f32⟩
  | 10 => ⟨S2x5000, .f32⟩
  | 11 => ⟨S2x5000x1, .f32⟩
  | 12 => ⟨S2x5000x1, .f32⟩
  | 13 => ⟨S2x5000x1, .f32⟩
  | 14 => ⟨S2x5000x1, .f32⟩
  | 15 => ⟨S2x5000x4, .f32⟩
  | 16 => ⟨S_, .i32⟩
  | 17 => ⟨S2x5000, .i32⟩
  | 18 => ⟨S2x5000, .i1⟩
  | 19 => ⟨S_, .f32⟩
  | 20 => ⟨S2x5000, .f32⟩
  | 21 => ⟨S2x5000, .i1⟩
  | 22 => ⟨S2x5000, .i1⟩
  | 23 => ⟨S80, .i32⟩
  | 24 => ⟨S_, .i32⟩
  | 25 => ⟨S80, .i32⟩
  | 26 => ⟨S80, .i32⟩
  | 27 => ⟨S2x1x5000, .i1⟩
  | 28 => ⟨S2x1x5000, .i32⟩
  | 29 => ⟨S1x80x1, .i32⟩
  | 30 => ⟨S2x80x5000, .i32⟩
  | 31 => ⟨S2x80x5000, .i32⟩
  | 32 => ⟨S2x80x5000, .i1⟩
  | 33 => ⟨S2x80x5000, .i1⟩
  | 34 => ⟨S2x80x5000, .i1⟩
  | 35 => ⟨S2x1x5000, .f32⟩
  | 36 => ⟨S_, .f32⟩
  | 37 => ⟨S_, .f32⟩
  | 38 => ⟨S2x80x5000, .f32⟩
  | 39 => ⟨S2x80x5000, .f32⟩
  | 40 => ⟨S2x80x5000, .f32⟩
  | 41 => ⟨S_, .i1⟩
  | 42 => ⟨S2x80x5000, .i1⟩
  | 43 => ⟨S_, .i32⟩
  | 44 => ⟨S_, .i32⟩
  | 45 => ⟨S2x5000x4, .f32⟩
  | 46 => ⟨S_, .i32⟩
  | 47 => ⟨S_, .i32⟩
  | 48 => ⟨S2x80x5000, .f32⟩
  | 49 => ⟨S2x80x5000, .i1⟩
  | 50 => ⟨S_, .i32⟩
  | 51 => ⟨S_, .i1⟩
  | 52 => ⟨S_, .i32⟩
  | 53 => ⟨S_, .i32⟩
  | 54 => ⟨S_, .f32⟩
  | 55 => ⟨S2x80, .f32⟩
  | 56 => ⟨S2x80x1, .f32⟩
  | 57 => ⟨S2x80x5000, .f32⟩
  | 58 => ⟨S2x80x5000, .i1⟩
  | 59 => ⟨S5000, .i32⟩
  | 60 => ⟨S_, .i32⟩
  | 61 => ⟨S_, .i32⟩
  | 62 => ⟨S2x80x5000, .i32⟩
  | 63 => ⟨S2x80x5000, .i32⟩
  | 64 => ⟨S2x80x5000, .i32⟩
  | 65 => ⟨S_, .i32⟩
  | 66 => ⟨S2x80, .i32⟩
  | 67 => ⟨S_, .f32⟩
  | 68 => ⟨S2x80, .f32⟩
  | 69 => ⟨S2x80, .i1⟩
  | 70 => ⟨S2x80x1, .i1⟩
  | 71 => ⟨S5000, .i32⟩
  | 72 => ⟨S1x1x5000, .i32⟩
  | 73 => ⟨S2x80x1, .i32⟩
  | 74 => ⟨S2x80x5000, .i32⟩
  | 75 => ⟨S2x80x5000, .i32⟩
  | 76 => ⟨S2x80x5000, .i1⟩
  | 77 => ⟨S2x80x5000, .i1⟩
  | 78 => ⟨S2x80x5000, .i1⟩
  | 79 => ⟨S2x80x5000, .i1⟩
  | 80 => ⟨S2x80x1, .i32⟩
  | 81 => ⟨S_, .i32⟩
  | 82 => ⟨S2x80x1, .i32⟩
  | 83 => ⟨S2x80x1, .i1⟩
  | 84 => ⟨S_, .i32⟩
  | 85 => ⟨S2x80x1, .i32⟩
  | 86 => ⟨S2x80x1, .i32⟩
  | 87 => ⟨S2x80x1, .i32⟩
  | 88 => ⟨S2x80x4, .f32⟩
  | 89 => ⟨S2x80x1x4, .f32⟩
  | 90 => ⟨S2x1x5000x4, .f32⟩
  | 91 => ⟨S2x80x1x1, .f32⟩
  | 92 => ⟨S2x80x1, .f32⟩
  | 93 => ⟨S2x1x5000x1, .f32⟩
  | 94 => ⟨S2x1x5000, .f32⟩
  | 95 => ⟨S2x80x5000, .f32⟩
  | 96 => ⟨S2x80x5000, .f32⟩
  | 97 => ⟨S2x80x5000, .f32⟩
  | 98 => ⟨S2x80x1x1, .f32⟩
  | 99 => ⟨S2x80x1, .f32⟩
  | 100 => ⟨S2x1x5000x1, .f32⟩
  | 101 => ⟨S2x1x5000, .f32⟩
  | 102 => ⟨S2x80x5000, .f32⟩
  | 103 => ⟨S2x80x5000, .f32⟩
  | 104 => ⟨S2x80x5000, .f32⟩
  | 105 => ⟨S2x80x1x1, .f32⟩
  | 106 => ⟨S2x80x1, .f32⟩
  | 107 => ⟨S2x1x5000x1, .f32⟩
  | 108 => ⟨S2x1x5000, .f32⟩
  | 109 => ⟨S2x80x5000, .f32⟩
  | 110 => ⟨S2x80x5000, .f32⟩
  | 111 => ⟨S2x80x5000, .f32⟩
  | 112 => ⟨S2x80x1x1, .f32⟩
  | 113 => ⟨S2x80x1, .f32⟩
  | 114 => ⟨S2x1x5000x1, .f32⟩
  | 115 => ⟨S2x1x5000, .f32⟩
  | 116 => ⟨S2x80x5000, .f32⟩
  | 117 => ⟨S2x80x5000, .f32⟩
  | 118 => ⟨S2x80x5000, .f32⟩
  | 119 => ⟨S2x80x5000, .f32⟩
  | 120 => ⟨S_, .f32⟩
  | 121 => ⟨S2x80x5000, .f32⟩
  | 122 => ⟨S2x80x5000, .f32⟩
  | 123 => ⟨S2x80x5000, .f32⟩
  | 124 => ⟨S_, .f32⟩
  | 125 => ⟨S2x80x5000, .f32⟩
  | 126 => ⟨S2x80x5000, .f32⟩
  | 127 => ⟨S2x80x5000, .f32⟩
  | _ => ⟨S2x5000x4, .f32⟩

abbrev hbmTy0_2 (i : Nat) : BufTy := match i % 128 with
  | 0 => ⟨S2x80x1x1, .f32⟩
  | 1 => ⟨S2x80x1, .f32⟩
  | 2 => ⟨S2x80x1x1, .f32⟩
  | 3 => ⟨S2x80x1, .f32⟩
  | 4 => ⟨S2x80x1, .f32⟩
  | 5 => ⟨S2x80x1x1, .f32⟩
  | 6 => ⟨S2x80x1, .f32⟩
  | 7 => ⟨S2x80x1x1, .f32⟩
  | 8 => ⟨S2x80x1, .f32⟩
  | 9 => ⟨S2x80x1, .f32⟩
  | 10 => ⟨S2x80x1, .f32⟩
  | 11 => ⟨S2x1x5000x1, .f32⟩
  | 12 => ⟨S2x1x5000, .f32⟩
  | 13 => ⟨S2x1x5000x1, .f32⟩
  | 14 => ⟨S2x1x5000, .f32⟩
  | 15 => ⟨S2x1x5000, .f32⟩
  | 16 => ⟨S2x1x5000x1, .f32⟩
  | 17 => ⟨S2x1x5000, .f32⟩
  | 18 => ⟨S2x1x5000x1, .f32⟩
  | 19 => ⟨S2x1x5000, .f32⟩
  | 20 => ⟨S2x1x5000, .f32⟩
  | 21 => ⟨S2x1x5000, .f32⟩
  | 22 => ⟨S2x80x5000, .f32⟩
  | 23 => ⟨S2x80x5000, .f32⟩
  | 24 => ⟨S2x80x5000, .f32⟩
  | 25 => ⟨S2x80x5000, .f32⟩
  | 26 => ⟨S_, .f32⟩
  | 27 => ⟨S2x80x5000, .f32⟩
  | 28 => ⟨S2x80x5000, .f32⟩
  | 29 => ⟨S2x80x5000, .f32⟩
  | 30 => ⟨S_, .f32⟩
  | 31 => ⟨S2x80x5000, .f32⟩
  | 32 => ⟨S2x80x5000, .i1⟩
  | 33 => ⟨S2x80x5000, .i1⟩
  | 34 => ⟨S2x80x5000, .i1⟩
  | 35 => ⟨S_, .f32⟩
  | 36 => ⟨S_, .f32⟩
  | 37 => ⟨S2x80x5000, .f32⟩
  | 38 => ⟨S2x80x5000, .f32⟩
  | 39 => ⟨S_, .i32⟩
  | 40 => ⟨S_, .i32⟩
  | 41 => ⟨S_, .i1⟩
  | 42 => ⟨S2x5000, .i1⟩
  | 43 => ⟨S2x5000, .i1⟩
  | 44 => ⟨S_, .f32⟩
  | 45 => ⟨S_, .f32⟩
  | 46 => ⟨S2x5000, .f32⟩
  | 47 => ⟨S2x5000, .f32⟩
  | 48 => ⟨S2x100, .f32⟩
  | 49 => ⟨S2x100, .i32⟩
  | 50 => ⟨S_, .f32⟩
  | 51 => ⟨S2x100, .f32⟩
  | 52 => ⟨S2x100, .i1⟩
  | 53 => ⟨S2x100, .f32⟩
  | 54 => ⟨S2x5000, .f32⟩
  | 55 => ⟨S2x5000x1, .f32⟩
  | 56 => ⟨S2x5000x1, .f32⟩
  | 57 => ⟨S2x5000x6, .f32⟩
  | 58 => ⟨S2x100x1, .i32⟩
  | 59 => ⟨S_, .i32⟩
  | 60 => ⟨S2x100x1, .i32⟩
  | 61 => ⟨S2x100x1, .i1⟩
  | 62 => ⟨S_, .i32⟩
  | 63 => ⟨S2x100x1, .i32⟩
  | 64 => ⟨S2x100x1, .i32⟩
  | 65 => ⟨S2x100x1, .i32⟩
  | 66 => ⟨S2x100x6, .f32⟩
  | 67 => ⟨S2x100x1, .f32⟩
  | 68 => ⟨S2x100x6, .f32⟩
  | 69 => ⟨S2x100x6, .f32⟩
  | _ => ⟨S2x5000x4, .f32⟩

abbrev hbmTy (i : Nat) : BufTy := match i / 128 with
  | 0 => hbmTy0_0 i
  | 1 => hbmTy0_1 i
  | 2 => hbmTy0_2 i
  | _ => ⟨S2x5000x4, .f32⟩

abbrev bufTy : (tb : Table) → Fin (tcTables nBuf tb) → BufTy
  | .hbm, ⟨i, _⟩ => hbmTy i
  | _, _ => ⟨S2x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_9 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_10 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_c_11 : Ref sig .tc := ⟨.hbm, 144, rfl⟩
abbrev main_v117 : Ref sig .tc := ⟨.hbm, 145, rfl⟩
abbrev main_v118 : Ref sig .tc := ⟨.hbm, 146, rfl⟩
abbrev main_cst_12 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_c_13 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_14 : Ref sig .tc := ⟨.hbm, 164, rfl⟩
abbrev main_call2_v0 : Ref sig .tc := ⟨.hbm, 165, rfl⟩
abbrev main_call2_v1 : Ref sig .tc := ⟨.hbm, 166, rfl⟩
abbrev main_call2_v2 : Ref sig .tc := ⟨.hbm, 167, rfl⟩
abbrev main_v134 : Ref sig .tc := ⟨.hbm, 168, rfl⟩
abbrev main_c_15 : Ref sig .tc := ⟨.hbm, 169, rfl⟩
abbrev main_v135 : Ref sig .tc := ⟨.hbm, 170, rfl⟩
abbrev main_c_16 : Ref sig .tc := ⟨.hbm, 171, rfl⟩
abbrev main_c_17 : Ref sig .tc := ⟨.hbm, 172, rfl⟩
abbrev main_v136_0 : Ref sig .tc := ⟨.hbm, 173, rfl⟩
abbrev main_v136_1 : Ref sig .tc := ⟨.hbm, 174, rfl⟩
abbrev main_v136_2 : Ref sig .tc := ⟨.hbm, 175, rfl⟩
abbrev main_v136_3 : Ref sig .tc := ⟨.hbm, 176, rfl⟩
abbrev main_v136_4 : Ref sig .tc := ⟨.hbm, 177, rfl⟩
abbrev main_while0c_c_25 : Ref sig .tc := ⟨.hbm, 178, rfl⟩
abbrev main_while0c_v152 : Ref sig .tc := ⟨.hbm, 179, rfl⟩
abbrev main_while0b_c_25 : Ref sig .tc := ⟨.hbm, 180, rfl⟩
abbrev main_while0b_v152 : Ref sig .tc := ⟨.hbm, 181, rfl⟩
abbrev main_while0b_cst_26 : Ref sig .tc := ⟨.hbm, 182, rfl⟩
abbrev main_while0b_v153 : Ref sig .tc := ⟨.hbm, 183, rfl⟩
abbrev main_while0b_v154 : Ref sig .tc := ⟨.hbm, 184, rfl⟩
abbrev main_while0b_v155 : Ref sig .tc := ⟨.hbm, 185, rfl⟩
abbrev main_while0b_v156 : Ref sig .tc := ⟨.hbm, 186, rfl⟩
abbrev main_while0b_v157 : Ref sig .tc := ⟨.hbm, 187, rfl⟩
abbrev main_while0b_c_27 : Ref sig .tc := ⟨.hbm, 188, rfl⟩
abbrev main_while0b_call3_v0 : Ref sig .tc := ⟨.hbm, 189, rfl⟩
abbrev main_while0b_call3_v1 : Ref sig .tc := ⟨.hbm, 190, rfl⟩
abbrev main_while0b_call3_v2 : Ref sig .tc := ⟨.hbm, 191, rfl⟩
abbrev main_while0b_v158 : Ref sig .tc := ⟨.hbm, 192, rfl⟩
abbrev main_while0b_c_28 : Ref sig .tc := ⟨.hbm, 193, rfl⟩
abbrev main_while0b_v159 : Ref sig .tc := ⟨.hbm, 194, rfl⟩
abbrev main_while0b_cst_29 : Ref sig .tc := ⟨.hbm, 195, rfl⟩
abbrev main_while0b_v160 : Ref sig .tc := ⟨.hbm, 196, rfl⟩
abbrev main_while0b_v161 : Ref sig .tc := ⟨.hbm, 197, rfl⟩
abbrev main_while0b_v162 : Ref sig .tc := ⟨.hbm, 198, rfl⟩
abbrev main_while0b_v163 : Ref sig .tc := ⟨.hbm, 199, rfl⟩
abbrev main_while0b_v164 : Ref sig .tc := ⟨.hbm, 200, rfl⟩
abbrev main_while0b_v165 : Ref sig .tc := ⟨.hbm, 201, rfl⟩
abbrev main_while0b_v166 : Ref sig .tc := ⟨.hbm, 202, rfl⟩
abbrev main_while0b_v167 : Ref sig .tc := ⟨.hbm, 203, rfl⟩
abbrev main_while0b_v168 : Ref sig .tc := ⟨.hbm, 204, rfl⟩
abbrev main_while0b_v169 : Ref sig .tc := ⟨.hbm, 205, rfl⟩
abbrev main_while0b_v170 : Ref sig .tc := ⟨.hbm, 206, rfl⟩
abbrev main_while0b_v171 : Ref sig .tc := ⟨.hbm, 207, rfl⟩
abbrev main_while0b_v172 : Ref sig .tc := ⟨.hbm, 208, rfl⟩
abbrev main_while0b_call4_c : Ref sig .tc := ⟨.hbm, 209, rfl⟩
abbrev main_while0b_call4_v0 : Ref sig .tc := ⟨.hbm, 210, rfl⟩
abbrev main_while0b_call4_v1 : Ref sig .tc := ⟨.hbm, 211, rfl⟩
abbrev main_while0b_call4_c_0 : Ref sig .tc := ⟨.hbm, 212, rfl⟩
abbrev main_while0b_call4_v2 : Ref sig .tc := ⟨.hbm, 213, rfl⟩
abbrev main_while0b_call4_v3 : Ref sig .tc := ⟨.hbm, 214, rfl⟩
abbrev main_while0b_call4_v4 : Ref sig .tc := ⟨.hbm, 215, rfl⟩
abbrev main_while0b_v173 : Ref sig .tc := ⟨.hbm, 216, rfl⟩
abbrev main_while0b_v174 : Ref sig .tc := ⟨.hbm, 217, rfl⟩
abbrev main_while0b_v175 : Ref sig .tc := ⟨.hbm, 218, rfl⟩
abbrev main_while0b_v176 : Ref sig .tc := ⟨.hbm, 219, rfl⟩
abbrev main_while0b_v177 : Ref sig .tc := ⟨.hbm, 220, rfl⟩
abbrev main_while0b_v178 : Ref sig .tc := ⟨.hbm, 221, rfl⟩
abbrev main_while0b_v179 : Ref sig .tc := ⟨.hbm, 222, rfl⟩
abbrev main_while0b_v180 : Ref sig .tc := ⟨.hbm, 223, rfl⟩
abbrev main_while0b_v181 : Ref sig .tc := ⟨.hbm, 224, rfl⟩
abbrev main_while0b_v182 : Ref sig .tc := ⟨.hbm, 225, rfl⟩
abbrev main_while0b_v183 : Ref sig .tc := ⟨.hbm, 226, rfl⟩
abbrev main_while0b_v184 : Ref sig .tc := ⟨.hbm, 227, rfl⟩
abbrev main_while0b_v185 : Ref sig .tc := ⟨.hbm, 228, rfl⟩
abbrev main_while0b_v186 : Ref sig .tc := ⟨.hbm, 229, rfl⟩
abbrev main_while0b_v187 : Ref sig .tc := ⟨.hbm, 230, rfl⟩
abbrev main_while0b_v188 : Ref sig .tc := ⟨.hbm, 231, rfl⟩
abbrev main_while0b_v189 : Ref sig .tc := ⟨.hbm, 232, rfl⟩
abbrev main_while0b_v190 : Ref sig .tc := ⟨.hbm, 233, rfl⟩
abbrev main_while0b_v191 : Ref sig .tc := ⟨.hbm, 234, rfl⟩
abbrev main_while0b_v192 : Ref sig .tc := ⟨.hbm, 235, rfl⟩
abbrev main_while0b_v193 : Ref sig .tc := ⟨.hbm, 236, rfl⟩
abbrev main_while0b_v194 : Ref sig .tc := ⟨.hbm, 237, rfl⟩
abbrev main_while0b_v195 : Ref sig .tc := ⟨.hbm, 238, rfl⟩
abbrev main_while0b_v196 : Ref sig .tc := ⟨.hbm, 239, rfl⟩
abbrev main_while0b_v197 : Ref sig .tc := ⟨.hbm, 240, rfl⟩
abbrev main_while0b_v198 : Ref sig .tc := ⟨.hbm, 241, rfl⟩
abbrev main_while0b_v199 : Ref sig .tc := ⟨.hbm, 242, rfl⟩
abbrev main_while0b_v200 : Ref sig .tc := ⟨.hbm, 243, rfl⟩
abbrev main_while0b_v201 : Ref sig .tc := ⟨.hbm, 244, rfl⟩
abbrev main_while0b_v202 : Ref sig .tc := ⟨.hbm, 245, rfl⟩
abbrev main_while0b_v203 : Ref sig .tc := ⟨.hbm, 246, rfl⟩
abbrev main_while0b_v204 : Ref sig .tc := ⟨.hbm, 247, rfl⟩
abbrev main_while0b_cst_30 : Ref sig .tc := ⟨.hbm, 248, rfl⟩
abbrev main_while0b_v205 : Ref sig .tc := ⟨.hbm, 249, rfl⟩
abbrev main_while0b_v206 : Ref sig .tc := ⟨.hbm, 250, rfl⟩
abbrev main_while0b_v207 : Ref sig .tc := ⟨.hbm, 251, rfl⟩
abbrev main_while0b_cst_31 : Ref sig .tc := ⟨.hbm, 252, rfl⟩
abbrev main_while0b_v208 : Ref sig .tc := ⟨.hbm, 253, rfl⟩
abbrev main_while0b_v209 : Ref sig .tc := ⟨.hbm, 254, rfl⟩
abbrev main_while0b_v210 : Ref sig .tc := ⟨.hbm, 255, rfl⟩
abbrev main_while0b_v211 : Ref sig .tc := ⟨.hbm, 256, rfl⟩
abbrev main_while0b_v212 : Ref sig .tc := ⟨.hbm, 257, rfl⟩
abbrev main_while0b_v213 : Ref sig .tc := ⟨.hbm, 258, rfl⟩
abbrev main_while0b_v214 : Ref sig .tc := ⟨.hbm, 259, rfl⟩
abbrev main_while0b_v215 : Ref sig .tc := ⟨.hbm, 260, rfl⟩
abbrev main_while0b_v216 : Ref sig .tc := ⟨.hbm, 261, rfl⟩
abbrev main_while0b_v217 : Ref sig .tc := ⟨.hbm, 262, rfl⟩
abbrev main_while0b_v218 : Ref sig .tc := ⟨.hbm, 263, rfl⟩
abbrev main_while0b_v219 : Ref sig .tc := ⟨.hbm, 264, rfl⟩
abbrev main_while0b_v220 : Ref sig .tc := ⟨.hbm, 265, rfl⟩
abbrev main_while0b_v221 : Ref sig .tc := ⟨.hbm, 266, rfl⟩
abbrev main_while0b_v222 : Ref sig .tc := ⟨.hbm, 267, rfl⟩
abbrev main_while0b_v223 : Ref sig .tc := ⟨.hbm, 268, rfl⟩
abbrev main_while0b_v224 : Ref sig .tc := ⟨.hbm, 269, rfl⟩
abbrev main_while0b_v225 : Ref sig .tc := ⟨.hbm, 270, rfl⟩
abbrev main_while0b_v226 : Ref sig .tc := ⟨.hbm, 271, rfl⟩
abbrev main_while0b_v227 : Ref sig .tc := ⟨.hbm, 272, rfl⟩
abbrev main_while0b_v228 : Ref sig .tc := ⟨.hbm, 273, rfl⟩
abbrev main_while0b_v229 : Ref sig .tc := ⟨.hbm, 274, rfl⟩
abbrev main_while0b_v230 : Ref sig .tc := ⟨.hbm, 275, rfl⟩
abbrev main_while0b_v231 : Ref sig .tc := ⟨.hbm, 276, rfl⟩
abbrev main_while0b_v232 : Ref sig .tc := ⟨.hbm, 277, rfl⟩
abbrev main_while0b_v233 : Ref sig .tc := ⟨.hbm, 278, rfl⟩
abbrev main_while0b_v234 : Ref sig .tc := ⟨.hbm, 279, rfl⟩
abbrev main_while0b_v235 : Ref sig .tc := ⟨.hbm, 280, rfl⟩
abbrev main_while0b_v236 : Ref sig .tc := ⟨.hbm, 281, rfl⟩
abbrev main_while0b_cst_32 : Ref sig .tc := ⟨.hbm, 282, rfl⟩
abbrev main_while0b_v237 : Ref sig .tc := ⟨.hbm, 283, rfl⟩
abbrev main_while0b_v238 : Ref sig .tc := ⟨.hbm, 284, rfl⟩
abbrev main_while0b_v239 : Ref sig .tc := ⟨.hbm, 285, rfl⟩
abbrev main_while0b_cst_33 : Ref sig .tc := ⟨.hbm, 286, rfl⟩
abbrev main_while0b_v240 : Ref sig .tc := ⟨.hbm, 287, rfl⟩
abbrev main_while0b_v241 : Ref sig .tc := ⟨.hbm, 288, rfl⟩
abbrev main_while0b_v242 : Ref sig .tc := ⟨.hbm, 289, rfl⟩
abbrev main_while0b_v243 : Ref sig .tc := ⟨.hbm, 290, rfl⟩
abbrev main_while0b_cst_34 : Ref sig .tc := ⟨.hbm, 291, rfl⟩
abbrev main_while0b_call5_v0 : Ref sig .tc := ⟨.hbm, 292, rfl⟩
abbrev main_while0b_call5_v1 : Ref sig .tc := ⟨.hbm, 293, rfl⟩
abbrev main_while0b_v244 : Ref sig .tc := ⟨.hbm, 294, rfl⟩
abbrev main_while0b_c_35 : Ref sig .tc := ⟨.hbm, 295, rfl⟩
abbrev main_while0b_v245 : Ref sig .tc := ⟨.hbm, 296, rfl⟩
abbrev main_c_18 : Ref sig .tc := ⟨.hbm, 297, rfl⟩
abbrev main_v137 : Ref sig .tc := ⟨.hbm, 298, rfl⟩
abbrev main_v138 : Ref sig .tc := ⟨.hbm, 299, rfl⟩
abbrev main_cst_19 : Ref sig .tc := ⟨.hbm, 300, rfl⟩
abbrev main_call6_v0 : Ref sig .tc := ⟨.hbm, 301, rfl⟩
abbrev main_call6_v1 : Ref sig .tc := ⟨.hbm, 302, rfl⟩
abbrev main_v139 : Ref sig .tc := ⟨.hbm, 303, rfl⟩
abbrev main_values : Ref sig .tc := ⟨.hbm, 304, rfl⟩
abbrev main_indices : Ref sig .tc := ⟨.hbm, 305, rfl⟩
abbrev main_cst_20 : Ref sig .tc := ⟨.hbm, 306, rfl⟩
abbrev main_v140 : Ref sig .tc := ⟨.hbm, 307, rfl⟩
abbrev main_v141 : Ref sig .tc := ⟨.hbm, 308, rfl⟩
abbrev main_v142 : Ref sig .tc := ⟨.hbm, 309, rfl⟩
abbrev main_v143 : Ref sig .tc := ⟨.hbm, 310, rfl⟩
abbrev main_v144 : Ref sig .tc := ⟨.hbm, 311, rfl⟩
abbrev main_v145 : Ref sig .tc := ⟨.hbm, 312, rfl⟩
abbrev main_v146 : Ref sig .tc := ⟨.hbm, 313, rfl⟩
abbrev main_v147 : Ref sig .tc := ⟨.hbm, 314, rfl⟩
abbrev main_call7_c : Ref sig .tc := ⟨.hbm, 315, rfl⟩
abbrev main_call7_v0 : Ref sig .tc := ⟨.hbm, 316, rfl⟩
abbrev main_call7_v1 : Ref sig .tc := ⟨.hbm, 317, rfl⟩
abbrev main_call7_c_0 : Ref sig .tc := ⟨.hbm, 318, rfl⟩
abbrev main_call7_v2 : Ref sig .tc := ⟨.hbm, 319, rfl⟩
abbrev main_call7_v3 : Ref sig .tc := ⟨.hbm, 320, rfl⟩
abbrev main_call7_v4 : Ref sig .tc := ⟨.hbm, 321, rfl⟩
abbrev main_v148 : Ref sig .tc := ⟨.hbm, 322, rfl⟩
abbrev main_v149 : Ref sig .tc := ⟨.hbm, 323, rfl⟩
abbrev main_v150 : Ref sig .tc := ⟨.hbm, 324, rfl⟩
abbrev main_v151 : Ref sig .tc := ⟨.hbm, 325, rfl⟩

abbrev nD : Nat := 1
abbrev τ : Topo := Topo.v7x

variable {F : FTy → Type} [FloatOps F]

abbrev main_while0_count : Scf.Loop 32 := ⟨0#32, 100#32, 1#32⟩
-- ==== Proof.IRefine.lean ====
/-
  The first kernel region: what one grid point's body leaves in its output block, and the pipeline's proof data for the
  ten points, over any contents `A` of the five arrays at the region's entry.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Proof.I

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipelines' rounds beside an unused copy. -/
abbrev UU : Type := URounds (GSem nD τ sig) Unit × URounds (GSem nD τ sig) Unit

local notation "𝕄" => MT nD τ sig Unit (Elt F) ℕ UU ℕ

/-! ## The body's rectangles -/

abbrev rProbs : Rect S1x1000x81 := Rect.unit (s := S1x1000x81) ![0, 0, 0] S1x1000x81.size inb_S1x1000x81_S1x1000x81_0_0_0
abbrev rBbox : Rect S1x1000x324 := Rect.unit (s := S1x1000x324) ![0, 0, 0] S1x1000x324.size inb_S1x1000x324_S1x1000x324_0_0_0
abbrev rRois : Rect S1x1000x4 := Rect.unit (s := S1x1000x4) ![0, 0, 0] S1x1000x4.size inb_S1x1000x4_S1x1000x4_0_0_0
abbrev rWin0 : Rect S1x1x4 := Rect.unit (s := S1x1x4) ![0, 0, 0] S1x1x1.size inb_S1x1x4_S1x1x1_0_0_0
abbrev rWin1 : Rect S1x1x4 := Rect.unit (s := S1x1x4) ![0, 0, 1] S1x1x1.size inb_S1x1x4_S1x1x1_0_0_1
abbrev rWin2 : Rect S1x1x4 := Rect.unit (s := S1x1x4) ![0, 0, 2] S1x1x1.size inb_S1x1x4_S1x1x1_0_0_2
abbrev rWin3 : Rect S1x1x4 := Rect.unit (s := S1x1x4) ![0, 0, 3] S1x1x1.size inb_S1x1x4_S1x1x1_0_0_3
abbrev rOut : Rect S1x1000x8 := Rect.unit (s := S1x1000x8) ![0, 0, 0] S1x1000x8.size inb_S1x1000x8_S1x1000x8_0_0_0

/-! ## What the body stores -/

/-- The third delta, selected by class, over the probabilities' and the deltas' blocks. -/
def dlt2 (x1 : Vec F S1x1000x81 .f32) (x2 : Vec F S1x1000x324 .f32) : FVec F S1000x1 .f32 :=
  k0_pay10 (k0_pay5 (View.ld x2 rBbox)) (iota .tc S1000x324 32 [1] iota_S1000x324_d1_w32) (k0_pay6 (View.ld x1 rProbs)) (k0_pay7 (F := F))
/-- The fourth delta. -/
def dlt3 (x1 : Vec F S1x1000x81 .f32) (x2 : Vec F S1x1000x324 .f32) : FVec F S1000x1 .f32 :=
  k0_pay11 (k0_pay5 (View.ld x2 rBbox)) (iota .tc S1000x324 32 [1] iota_S1000x324_d1_w32) (k0_pay6 (View.ld x1 rProbs)) (k0_pay7 (F := F))
/-- The first two deltas. -/
def dlt01 (x1 : Vec F S1x1000x81 .f32) (x2 : Vec F S1x1000x324 .f32) : FVec F S1000x2 .f32 :=
  k0_pay12 (k0_pay5 (View.ld x2 rBbox)) (iota .tc S1000x324 32 [1] iota_S1000x324_d1_w32) (k0_pay6 (View.ld x1 rProbs)) (k0_pay7 (F := F))

/-- What the body stores, over the four input blocks. -/
def refined (x0 : Vec F S1x1000x4 .f32) (x1 : Vec F S1x1000x81 .f32) (x2 : Vec F S1x1000x324 .f32) (x3 : Vec F S1x1x4 .f32) : Vec F S1x1000x8 .f32 :=
  k0_pay1 (k0_pay3 (View.ld x1 rProbs)) (k0_pay4 (View.ld x1 rProbs))
    (k0_pay17 (dlt2 x1 x2) (dlt3 x1 x2) (dlt01 x1 x2) (View.ld x0 rRois)) (k0_pay18 (dlt2 x1 x2) (dlt3 x1 x2) (dlt01 x1 x2) (View.ld x0 rRois))
    (k0_pay19 (View.ld x3 rWin0) (View.ld x3 rWin1)) k0_pay20 (k0_pay21 (View.ld x3 rWin2)) (k0_pay22 (View.ld x3 rWin3))

/-- The output block after the body: the one store's piece. -/
def blk4 (x0 : Vec F S1x1000x4 .f32) (x1 : Vec F S1x1000x81 .f32) (x2 : Vec F S1x1000x324 .f32) (x3 : Vec F S1x1x4 .f32) : Vec F S1x1000x8 .f32 :=
  View.canon [⟨rOut, refined x0 x1 x2 x3⟩]

/-- The one store covers its block. -/
theorem rOut_covers (p0 : Vec F S1x1000x8 .f32) (y : S1x1000x8.Idx) :
    ∃ pc ∈ ([⟨rOut, p0⟩] : List (View.Piece (Elt F) S1x1000x8 .f32)), y ∈ pc.1.set :=
  View.cover_of_tiled [⟨rOut, p0⟩] S1x1000x8.size (by rfl) y

/-! ## The body's triple -/

set_option maxHeartbeats 1000000 in
/-- The body on whole staging memrefs: the inputs stay, the output ends at `blk4`. -/
theorem refine_body (c : Dev nD) (E : Set ℕ) (i : grid0.Coords) (arg2 : Memref sig .tc .vmem S1x1000x4 .f32) (harg2 : arg2.IsWhole) (arg3 : Memref sig .tc .vmem S1x1000x81 .f32) (harg3 : arg3.IsWhole) (arg4 : Memref sig .tc .vmem S1x1000x324 .f32) (harg4 : arg4.IsWhole) (arg5 : Memref sig .tc .vmem S1x1x4 .f32) (harg5 : arg5.IsWhole) (arg6 : Memref sig .tc .vmem S1x1000x8 .f32) (harg6 : arg6.IsWhole)
    (x0 : Vec F S1x1000x4 .f32) (x1 : Vec F S1x1000x81 .f32) (x2 : Vec F S1x1000x324 .f32) (x3 : Vec F S1x1x4 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (blk4 x0 x1 x2 x3)) -∗ K ⟨⟩))
      ⊢ wp frame (wpE (defs₀ (F := F)) Variants.none c none) E (cc0__refine_kernel i arg2 harg2 arg3 harg3 arg4 harg4 arg5 harg5 arg6 harg6) K := by
  simp only [cc0__refine_kernel_eq_skeleton]; unfold cc0__refine_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (rOut_covers _)).trans ?_
  rfl

/-! ## The pipeline's proof data -/

variable (A : (w : Fin cfg0.W) → (c : Dev nD) → Buf (Elt F) ((cfg0.win w).arr.view.loc (c : Thread nD τ)))

/-- Window `w`'s block at point `t`. -/
def rblk (c : Dev nD) (w : Fin cfg0.W) (t : Fin cfg0.N) : ((cfg0.win w).xblock (cfg0.grid.coords t)).Idx → Elt F (cfg0.win w).elt :=
  ((cfg0.win w).blk t).view.read (Elt F) (A w c)

/-- The proof data: the arrays at `A`, each input's buffer left at its block, the output's at `blk4` of them. -/
def dat0 (c : Dev nD) : Dat τ (Elt F) Unit ℕ UU ℕ cfg0 c where
  A w := A w c
  after w t := match w with
    | ⟨0, _⟩ => rblk A c 0 t
    | ⟨1, _⟩ => rblk A c 1 t
    | ⟨2, _⟩ => rblk A c 2 t
    | ⟨3, _⟩ => rblk A c 3 t
    | ⟨4, _⟩ => blk4 (rblk A c 0 t) (rblk A c 1 t) (rblk A c 2 t) (rblk A c 3 t)
  Φ _ := Pipeline.scopedRest spec0 c
  q _ := fullShare
  owed _ := 0

theorem dat0_A (c : Dev nD) (w : Fin cfg0.W) : (dat0 A c).A w = A w c := by dsimp only [dat0]

theorem dat0_after0 (c : Dev nD) (t : Fin cfg0.N) : (dat0 A c).after 0 t = rblk A c 0 t := by dsimp only [dat0]
theorem dat0_after1 (c : Dev nD) (t : Fin cfg0.N) : (dat0 A c).after 1 t = rblk A c 1 t := by dsimp only [dat0]
theorem dat0_after2 (c : Dev nD) (t : Fin cfg0.N) : (dat0 A c).after 2 t = rblk A c 2 t := by dsimp only [dat0]
theorem dat0_after3 (c : Dev nD) (t : Fin cfg0.N) : (dat0 A c).after 3 t = rblk A c 3 t := by dsimp only [dat0]
theorem dat0_after4 (c : Dev nD) (t : Fin cfg0.N) : (dat0 A c).after 4 t = blk4 (rblk A c 0 t) (rblk A c 1 t) (rblk A c 2 t) (rblk A c 3 t) := by dsimp only [dat0]

theorem dat0_before0 (c : Dev nD) (t : Fin cfg0.N) (d) : (dat0 A c).before 0 t d = rblk A c 0 t :=
  ((dat0 A c).before_in_eq_fetched 0 rfl (fun _ => rfl) (fun _ _ _ => rfl) (fun t => by rw [dat0_after0]; unfold Dat.blockOf rblk; rw [dat0_A]; try rfl) t d).trans
    (by unfold Dat.fetched Dat.blockOf rblk; rw [dat0_A]; try rfl)
theorem dat0_before1 (c : Dev nD) (t : Fin cfg0.N) (d) : (dat0 A c).before 1 t d = rblk A c 1 t :=
  ((dat0 A c).before_in_eq_fetched 1 rfl (fun _ => rfl) (fun _ _ _ => rfl) (fun t => by rw [dat0_after1]; unfold Dat.blockOf rblk; rw [dat0_A]; try rfl) t d).trans
    (by unfold Dat.fetched Dat.blockOf rblk; rw [dat0_A]; try rfl)
theorem dat0_before2 (c : Dev nD) (t : Fin cfg0.N) (d) : (dat0 A c).before 2 t d = rblk A c 2 t :=
  ((dat0 A c).before_in_eq_fetched 2 rfl (fun _ => rfl) (fun _ _ _ => rfl) (fun t => by rw [dat0_after2]; unfold Dat.blockOf rblk; rw [dat0_A]; try rfl) t d).trans
    (by unfold Dat.fetched Dat.blockOf rblk; rw [dat0_A]; try rfl)
theorem dat0_before3 (c : Dev nD) (t : Fin cfg0.N) (d) : (dat0 A c).before 3 t d = rblk A c 3 t :=
  ((dat0 A c).before_in_eq_fetched 3 rfl (fun _ => rfl) (fun _ _ _ => rfl) (fun t => by rw [dat0_after3]; unfold Dat.blockOf rblk; rw [dat0_A]; try rfl) t d).trans
    (by unfold Dat.fetched Dat.blockOf rblk; rw [dat0_A]; try rfl)

/-! ## The body obligation -/

/-- What the body is entered with at point `t`. -/
def refPre (c : Dev nD) (t : Fin cfg0.N) : sProp 𝕄 :=
  iprop((dat0 A c).Φ t.castSucc ∗ (dat0 A c).owesAt () t.castSucc
    ∗ (∃ d, owns (c : Thread nD τ) (st0_0 t) fullShare ((dat0 A c).before 0 t d))
    ∗ (∃ d, owns (c : Thread nD τ) (st0_1 t) fullShare ((dat0 A c).before 1 t d))
    ∗ (∃ d, owns (c : Thread nD τ) (st0_2 t) fullShare ((dat0 A c).before 2 t d))
    ∗ (∃ d, owns (c : Thread nD τ) (st0_3 t) fullShare ((dat0 A c).before 3 t d))
    ∗ (∃ d, owns (c : Thread nD τ) (st0_4 t) fullShare ((dat0 A c).before 4 t d)))

/-- What it is left with. -/
def refPost (c : Dev nD) (t : Fin cfg0.N) : sProp 𝕄 :=
  iprop((dat0 A c).Φ t.succ ∗ (dat0 A c).owesAt () t.succ
    ∗ owns (c : Thread nD τ) (st0_0 t) fullShare ((dat0 A c).after 0 t)
    ∗ owns (c : Thread nD τ) (st0_1 t) fullShare ((dat0 A c).after 1 t)
    ∗ owns (c : Thread nD τ) (st0_2 t) fullShare ((dat0 A c).after 2 t)
    ∗ owns (c : Thread nD τ) (st0_3 t) fullShare ((dat0 A c).after 3 t)
    ∗ owns (c : Thread nD τ) (st0_4 t) fullShare ((dat0 A c).after 4 t))

theorem refine_point (c : Dev nD) (t : Fin cfg0.N) :
    refPre A c t ⊢ wp frame (wpE (defs₀ (F := F)) Variants.none c none) Set.univ (bodyAt0 t) (fun _ => refPost A c t) := by
  unfold refPre refPost bodyAt0
  simp only [dat0_before0, dat0_before1, dat0_before2, dat0_before3]
  rw [show (dat0 A c).Φ t.succ = (dat0 A c).Φ t.castSucc from rfl,
    show (dat0 A c).owesAt () t.succ = (dat0 A c).owesAt () t.castSucc from rfl,
    dat0_after0, dat0_after1, dat0_after2, dat0_after3, dat0_after4]
  iintro ⟨HΦ, Ho, ⟨%d0, H0⟩, ⟨%d1, H1⟩, ⟨%d2, H2⟩, ⟨%d3, H3⟩, ⟨%d4, H4⟩⟩
  iapply (refine_body c Set.univ (grid0.coords t) _ _ _ _ _ _ _ _ _ _ (rblk A c 0 t) (rblk A c 1 t) (rblk A c 2 t) (rblk A c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs_row0 (t : Fin cfg0.N) :
    defs₀ (F := F) .tc cfg0.body (cfg0.bodyArgs t (cfg0.slots t)) = bodyAt0 t := by
  unfold defs₀; rw [Defs.onTc_tc]

/-- The pipeline's body obligation. -/
theorem refine_obligation (c : Dev nD) : BodyObligation (dat0 (F := F) A c) (defs₀ (F := F)) Variants.none () Set.univ := fun t => by
  rw [bigSep_W0, bigSep_W0, defs_row0]
  exact triple_restated (refine_point A c t) rfl .rfl fun _ => .rfl

end Cert.Proof.I

end
-- ==== Proof.INms.lean ====
/-
  The second kernel region: one trip of its loop as a pure function, the hundred trips as a fold, what the body leaves
  in the output, and the pipeline's proof data for its one point, over any contents `A` of its two arrays at the entry.
-/
module

public import proofs.«01_k».proof.Proof.IRefine

@[expose] public section

set_option maxRecDepth 16384

noncomputable section

namespace Cert.Proof.I

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One trip -/

/-- The first image's part of one trip: the next scores and the next output panel. -/
def tripA (v4 : IVec S8x640 32) (v5 v6 : IVec S8x128 32) (y1 x1 y2 x2 cid area : FVec F S8x640 .f32) (i : BitVec 32)
    (sc : FVec F S8x640 .f32) (det : FVec F S8x128 .f32) : FVec F S8x640 .f32 × FVec F S8x128 .f32 :=
  (k1_pay15 y1 x1 y2 x2 cid area sc (k1_pay8 v4 sc) (k1_pay9 sc) (k1_pay10 v4 y1 sc) (k1_pay11 v4 x1 sc) (k1_pay12 v4 y2 sc) (k1_pay13 v4 x2 sc),
    k1_pay21 v5 v6 det i (k1_pay7 sc) (k1_pay12 v4 y2 sc) (k1_pay13 v4 x2 sc) (k1_pay14 cid (k1_pay8 v4 sc)) (k1_pay16 (F := F) (k1_pay9 sc))
      (k1_pay17 v5) (k1_pay18 (k1_pay9 sc) (k1_pay10 v4 y1 sc)) (k1_pay19 v5) (k1_pay20 (k1_pay9 sc) (k1_pay11 v4 x1 sc)))

/-- The second image's part. -/
def tripB (v4 : IVec S8x640 32) (v5 v6 : IVec S8x128 32) (y1 x1 y2 x2 cid v34 : FVec F S8x640 .f32) (i : BitVec 32)
    (sc : FVec F S8x640 .f32) (det : FVec F S8x128 .f32) : FVec F S8x640 .f32 × FVec F S8x128 .f32 :=
  (k1_pay34 cid (k1_pay1 x1 x2 v34) sc (k1_pay24 sc) (k1_pay30 cid (k1_pay23 v4 sc))
      (k1_pay31 y1 x1 y2 x2 (k1_pay23 v4 sc) (k1_pay25 v4 y1 sc)) (k1_pay32 y2 (k1_pay23 v4 sc) (k1_pay25 v4 y1 sc)) (k1_pay33 x1 x2 (k1_pay23 v4 sc)),
    k1_pay4 v6 det i (k1_pay36 v5)
      (k1_pay37 v5 (k1_pay22 sc) (k1_pay24 sc) (k1_pay27 x1 (k1_pay23 v4 sc)) (k1_pay28 y2 (k1_pay23 v4 sc)) (k1_pay29 x2 (k1_pay23 v4 sc)) (k1_pay30 cid (k1_pay23 v4 sc)))
      (k1_pay38 (k1_pay24 sc) (k1_pay26 (k1_pay25 v4 y1 sc))))

/-- The loop's state: each image's scores and output panel. -/
abbrev LoopSt (F : FTy → Type) [FloatOps F] : Type := FVec F S8x640 .f32 × FVec F S8x128 .f32 × FVec F S8x640 .f32 × FVec F S8x128 .f32

/-- Rows `r … r+7` of the tiled input. -/
abbrev pan (x : Vec F S128x640 .f32) (r : Nat) (h : ∀ i : Fin 2, (![r, 0] : Fin 2 → Nat) i + S8x640.size i ≤ S128x640.size i) : Vec F S8x640 .f32 :=
  View.ld x (Rect.unit (s := S128x640) ![r, 0] S8x640.size h)

section
variable (x : Vec F S128x640 .f32)
abbrev pan0 := pan x 0 inb_S128x640_S8x640_0_0
abbrev pan1 := pan x 8 inb_S128x640_S8x640_8_0
abbrev pan2 := pan x 16 inb_S128x640_S8x640_16_0
abbrev pan3 := pan x 24 inb_S128x640_S8x640_24_0
abbrev pan4 := pan x 32 inb_S128x640_S8x640_32_0
abbrev pan5 := pan x 40 inb_S128x640_S8x640_40_0
abbrev pan6 := pan x 64 inb_S128x640_S8x640_64_0
abbrev pan7 := pan x 72 inb_S128x640_S8x640_72_0
abbrev pan8 := pan x 80 inb_S128x640_S8x640_80_0
abbrev pan9 := pan x 88 inb_S128x640_S8x640_88_0
abbrev pan10 := pan x 96 inb_S128x640_S8x640_96_0
abbrev pan11 := pan x 104 inb_S128x640_S8x640_104_0

/-- One trip over both images. -/
def trip (k : Fin k1_t1_loop.trips) (s : LoopSt F) : LoopSt F :=
  let a := tripA k1_pay39 (iota .tc S8x128 32 [0] iota_S8x128_d0_w32) (iota .tc S8x128 32 [1] iota_S8x128_d1_w32)
    (k1_pay40 (pan0 x)) (k1_pay41 (pan1 x)) (k1_pay42 (pan2 x)) (k1_pay43 (pan3 x)) (k1_pay45 (pan5 x)) (k1_pay46 (pan0 x) (pan1 x) (pan2 x) (pan3 x))
    (Scf.iv 0#32 1#32 k) s.1 s.2.1
  let b := tripB k1_pay39 (iota .tc S8x128 32 [0] iota_S8x128_d0_w32) (iota .tc S8x128 32 [1] iota_S8x128_d1_w32)
    (k1_pay47 (pan6 x)) (k1_pay48 (pan7 x)) (k1_pay49 (pan8 x)) (k1_pay50 (pan9 x)) (k1_pay52 (pan11 x)) (k1_pay53 (pan6 x) (pan8 x))
    (Scf.iv 0#32 1#32 k) s.2.2.1 s.2.2.2
  (a.1, a.2, b.1, b.2)

/-- The state the loop starts from. -/
def st0 : LoopSt F := (k1_pay44 (pan4 x), k1_pay2 (F := F), k1_pay51 (pan10 x), k1_pay3 (F := F))

/-- The state after the hundred trips. -/
def stN : LoopSt F := Scf.fold (n := k1_t1_loop.trips) (trip x) (st0 x)

/-- The output after the body: its two stores, last first. -/
def blkN : Vec F S2x8x128 .f32 :=
  View.canon [⟨Rect.unit (s := S2x8x128) ![1, 0, 0] S1x8x128.size inb_S2x8x128_S1x8x128_1_0_0, k1_pay6 (stN x).2.2.2⟩,
    ⟨Rect.unit (s := S2x8x128) ![0, 0, 0] S1x8x128.size inb_S2x8x128_S1x8x128_0_0_0, k1_pay5 (stN x).2.1⟩]
end

theorem rN_covers (p q : Vec F S1x8x128 .f32) (y : S2x8x128.Idx) :
    ∃ pc ∈ ([⟨Rect.unit (s := S2x8x128) ![1, 0, 0] S1x8x128.size inb_S2x8x128_S1x8x128_1_0_0, p⟩,
      ⟨Rect.unit (s := S2x8x128) ![0, 0, 0] S1x8x128.size inb_S2x8x128_S1x8x128_0_0_0, q⟩] : List (View.Piece (Elt F) S2x8x128 .f32)), y ∈ pc.1.set :=
  View.cover_of_tiled [⟨Rect.unit (s := S2x8x128) ![1, 0, 0] S1x8x128.size inb_S2x8x128_S1x8x128_1_0_0, p⟩,
    ⟨Rect.unit (s := S2x8x128) ![0, 0, 0] S1x8x128.size inb_S2x8x128_S1x8x128_0_0_0, q⟩] S1x8x128.size (by rfl) y

set_option maxRecDepth 65536 in
/-- One trip of the printed loop issues nothing: it returns the two images' parts. -/
theorem body_pure (arg0 : Memref sig .tc .vmem S128x640 .f32) (harg0 : arg0.IsWhole) (arg1 : Memref sig .tc .vmem S2x8x128 .f32) (harg1 : arg1.IsWhole)
    (v4 : IVec S8x640 32) (v5 v6 : IVec S8x128 32) (v8 v10 v12 v14 v18 v21 v23 v25 v27 v29 v33 v34 : FVec F S8x640 .f32)
    (k : Fin k1_t1_loop.trips) (s : LoopSt F) :
    k1_t1_body arg0 harg0 arg1 harg1 v4 v5 v6 v8 v10 v12 v14 v18 v21 v23 v25 v27 v29 v33 v34 k s
      = .ret ((tripA v4 v5 v6 v8 v10 v12 v14 v18 v21 (Scf.iv 0#32 1#32 k) s.1 s.2.1).1, (tripA v4 v5 v6 v8 v10 v12 v14 v18 v21 (Scf.iv 0#32 1#32 k) s.1 s.2.1).2,
          (tripB v4 v5 v6 v23 v25 v27 v29 v33 v34 (Scf.iv 0#32 1#32 k) s.2.2.1 s.2.2.2).1, (tripB v4 v5 v6 v23 v25 v27 v29 v33 v34 (Scf.iv 0#32 1#32 k) s.2.2.1 s.2.2.2).2) := by
  unfold k1_t1_body
  simp only [k1_part1_eq_skeleton, k1_part2_eq_skeleton, k1_part3_eq_skeleton, k1_part4_eq_skeleton, k1_part5_eq_skeleton]
  rfl

set_option maxHeartbeats 2000000 in
/-- The body on whole staging memrefs: the input stays, the output ends at `blkN`. -/
theorem nms_body (c : Dev nD) (E : Set ℕ) (arg0 : Memref sig .tc .vmem S128x640 .f32) (harg0 : arg0.IsWhole) (arg1 : Memref sig .tc .vmem S2x8x128 .f32) (harg1 : arg1.IsWhole)
    (x : Vec F S128x640 .f32) (K : PUnit → sProp 𝕄) :
    iprop(owns (c : Thread nD τ) arg0 fullShare x ∗ (∃ d, owns (c : Thread nD τ) arg1 fullShare d)
        ∗ (iprop(owns (c : Thread nD τ) arg0 fullShare x ∗ owns (c : Thread nD τ) arg1 fullShare (blkN x)) -∗ K ⟨⟩))
      ⊢ wp frame (wpE (defs₀ (F := F)) Variants.none c none) E (cc1__nms_kernel arg0 harg0 arg1 harg1) K := by
  simp only [cc1__nms_kernel_eq_skeleton]; unfold cc1__nms_kernel_skel
  simp only [k1_part6_eq_skeleton]
  unfold owns
  iintro ⟨⟨%f0, %hf0, H0⟩, ⟨%d1, %f1, -, H1⟩, Hk⟩
  subst hf0
  sl_exec
  rw [show (Scf.Loop.for k1_t1_loop k1_t1_ok _ _) = _ from Scf.for_pure _ _ _ k1_t1_ok _ _ _ (fun k s => body_pure arg0 harg0 arg1 harg1 _ _ _ _ _ _ _ _ _ _ _ _ _ _ _ k s)]
  sl_exec
  sl_step
  iapply Hk
  isplitl [H0]
  · iexists f0; isplitr; · ipureintro; rfl
    iexact H0
  iexists _; isplitr
  swap; · iexact H1
  ipureintro
  refine (View.read_writes_eq_canon _ _ _ (rN_covers _ _)).trans ?_
  rfl

/-! ## The pipeline's proof data -/

variable (A : (w : Fin cfg1.W) → (c : Dev nD) → Buf (Elt F) ((cfg1.win w).arr.view.loc (c : Thread nD τ)))

/-- The input's block at the one point. -/
def nblk (c : Dev nD) (t : Fin cfg1.N) : ((cfg1.win 0).xblock (cfg1.grid.coords t)).Idx → Elt F (cfg1.win 0).elt :=
  ((cfg1.win 0).blk t).view.read (Elt F) (A 0 c)

/-- The proof data: the arrays at `A`, the input's buffer left at its block, the output's at `blkN` of it. -/
def dat1 (c : Dev nD) : Dat τ (Elt F) Unit ℕ UU ℕ cfg1 c where
  A w := A w c
  after w t := match w with
    | ⟨0, _⟩ => nblk A c t
    | ⟨1, _⟩ => blkN (nblk A c t)
  Φ _ := Pipeline.scopedRest spec1 c
  q _ := fullShare
  owed _ := 0

theorem dat1_A (c : Dev nD) (w : Fin cfg1.W) : (dat1 A c).A w = A w c := by dsimp only [dat1]
theorem dat1_after0 (c : Dev nD) (t : Fin cfg1.N) : (dat1 A c).after 0 t = nblk A c t := by dsimp only [dat1]
theorem dat1_after1 (c : Dev nD) (t : Fin cfg1.N) : (dat1 A c).after 1 t = blkN (nblk A c t) := by dsimp only [dat1]

theorem dat1_before0 (c : Dev nD) (t : Fin cfg1.N) (d) : (dat1 A c).before 0 t d = nblk A c t :=
  ((dat1 A c).before_in_eq_fetched 0 rfl (fun _ => rfl) (fun _ _ _ => rfl) (fun t => by rw [dat1_after0]; unfold Dat.blockOf nblk; rw [dat1_A]; try rfl) t d).trans
    (by unfold Dat.fetched Dat.blockOf nblk; rw [dat1_A]; try rfl)

/-- What the body is entered with. -/
def nmsPre (c : Dev nD) (t : Fin cfg1.N) : sProp 𝕄 :=
  iprop((dat1 A c).Φ t.castSucc ∗ (dat1 A c).owesAt () t.castSucc
    ∗ (∃ d, owns (c : Thread nD τ) (st1_0 t) fullShare ((dat1 A c).before 0 t d))
    ∗ (∃ d, owns (c : Thread nD τ) (st1_1 t) fullShare ((dat1 A c).before 1 t d)))

/-- What it is left with. -/
def nmsPost (c : Dev nD) (t : Fin cfg1.N) : sProp 𝕄 :=
  iprop((dat1 A c).Φ t.succ ∗ (dat1 A c).owesAt () t.succ
    ∗ owns (c : Thread nD τ) (st1_0 t) fullShare ((dat1 A c).after 0 t)
    ∗ owns (c : Thread nD τ) (st1_1 t) fullShare ((dat1 A c).after 1 t))

theorem nms_point (c : Dev nD) (t : Fin cfg1.N) :
    nmsPre A c t ⊢ wp frame (wpE (defs₀ (F := F)) Variants.none c none) Set.univ (bodyAt1 t) (fun _ => nmsPost A c t) := by
  unfold nmsPre nmsPost bodyAt1
  simp only [dat1_before0]
  rw [show (dat1 A c).Φ t.succ = (dat1 A c).Φ t.castSucc from rfl,
    show (dat1 A c).owesAt () t.succ = (dat1 A c).owesAt () t.castSucc from rfl,
    dat1_after0, dat1_after1]
  iintro ⟨HΦ, Ho, ⟨%d0, H0⟩, ⟨%d1, H1⟩⟩
  iapply (nms_body c Set.univ _ _ _ _ (nblk A c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs_row1 (t : Fin cfg1.N) :
    defs₀ (F := F) .tc cfg1.body (cfg1.bodyArgs t (cfg1.slots t)) = bodyAt1 t := by
  unfold defs₀; rw [Defs.onTc_tc]

/-- The pipeline's body obligation. -/
theorem nms_obligation (c : Dev nD) : BodyObligation (dat1 (F := F) A c) (defs₀ (F := F)) Variants.none () Set.univ := fun t => by
  rw [bigSep_W1, bigSep_W1, defs_row1]
  exact triple_restated (nms_point A c t) rfl .rfl fun _ => .rfl

end Cert.Proof.I

end
-- ==== Proof.IRun.lean ====
/-
  The run of the whole program: the contents between its items, the two regions' records, and the launch, every final
  state read off the last contents: the arguments as launched, the result at what the items compute, every counter zero.
-/
module

public import proofs.«01_k».proof.Proof.INms
public import proofs.«01_k».proof.Proof.Gen.KernelIdeal.Regions
public import Idealize.ShloMosaic.Lib.Pipeline.RegionArraysS

@[expose] public section

noncomputable section

namespace Cert.Proof.I

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

/-- The pipelines' algebra is the left half of the user algebra. -/
abbrev EP : Emb (URounds (GSem nD τ sig) Unit) 𝕄 := embL

variable (m : (ℓ : Loc nD τ sig) → Buf (Elt F) ℓ) (ρ : Dev nD → PrngReg)

/-! ## The contents between the items -/

/-- The first region's arrays at its entry. -/
def A0 (w : Fin cfg0.W) (c : Dev nD) : Buf (Elt F) ((cfg0.win w).arr.view.loc (c : Thread nD τ)) :=
  V1 m c (Pipeline.arrRef spec0 w)

/-- What the first region leaves in its output array. -/
def res0 (c : Dev nD) : Buf (Elt F) ((c : Thread nD τ).loc main_v24) := (dat0 (A0 m) c).arrAt 4 cfg0.N

/-- The regions' results, the second's not yet known. -/
def outsA : Outs (F := F) := fun _ r c => Function.update (V0 m c) main_v24 (res0 m c) r

/-- The second region's arrays at its entry. -/
def A1 (w : Fin cfg1.W) (c : Dev nD) : Buf (Elt F) ((cfg1.win w).arr.view.loc (c : Thread nD τ)) :=
  V5 m (outsA m) c (Pipeline.arrRef spec1 w)

/-- What the second region leaves in its output array. -/
def res1 (c : Dev nD) : Buf (Elt F) ((c : Thread nD τ).loc main_v28) := (dat1 (A1 m) c).arrAt 1 cfg1.N

/-- The regions' results. -/
def outsB : Outs (F := F)
  | 6, r, c => Function.update (V0 m c) main_v28 (res1 m c) r
  | n, r, c => outsA m n r c

theorem outsA_v24 (c : Dev nD) : outsA m 2 main_v24 c = res0 m c := by unfold outsA; exact Function.update_self _ _ _
theorem outsB_v24 (c : Dev nD) : outsB m 2 main_v24 c = res0 m c := outsA_v24 m c
theorem outsB_v28 (c : Dev nD) : outsB m 6 main_v28 c = res1 m c := by
  show Function.update (V0 m c) main_v28 (res1 m c) main_v28 = _; exact Function.update_self _ _ _

theorem V5_outs (c : Dev nD) : V5 m (outsB m) c = V5 m (outsA m) c := by
  have h : V2 m (outsB m) c = V2 m (outsA m) c := by simp only [V2, outsA_v24, outsB_v24]
  simp only [V5, V4, V3, h]

/-! ## The regions' records -/

/-- The two pipelines' proof data. -/
def pdats : (p : Fin 2) → (c : Dev nD) → Dat τ (Elt F) Unit ℕ UU ℕ (cfgs p) c
  | 0, c => dat0 (A0 m) c
  | 1, c => dat1 (A1 m) c

/-- Every TensorCore cell carries the one index. -/
abbrev L : GSem nD τ sig → Finset Unit := fun g => if g.1.2 = .tc then {()} else ∅
abbrev lv : GSem nD τ sig → Unit → ℕ := fun _ _ => 0

/-- What rides beside the buffers between the items. -/
abbrev Rd (_ : Fin 3) (c : Dev nD) : sProp 𝕄 :=
  iprop((∃ W, owes (c : Thread nD τ) (0 : CellTallies nD τ sig Unit) W) ∗ emp ∗ emp)

theorem cut (p : Fin 2) : Pipeline.LevelCut (pcfgs (F := F)) adm () L lv p (fun _ => (0 : CellTallies nD τ sig Unit)) (fun _ => 0) where
  hι c w s := by simp [L]
  hιb c w s := le_refl _
  hD c g i h := absurd h (lt_irrefl _)

set_option backward.isDefEq.respectTransparency.types false in
/-- The first region's record. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => iprop(emp)) (fun _ => iprop(emp)) launch0.toP rfl
    (fun c => (refine_obligation (A0 m) c).loose) (fun _ _ => rfl) (fun _ => rfl)
    (fun c => (dat0 (A0 m) c).share_full fun _ => rfl)
    (fun c => by show _ ⊢ Pipeline.scopedRest spec0 c; iintro ⟨H, -⟩; iexact H)
    (fun c => by show Pipeline.scopedRest spec0 c ⊢ _; iintro H; isplitl [H]; · iexact H
                 iempintro)
    (fun _ => 0) (cut 0) (fun _ => iprop(emp)) (V1 m) (fun c w => dat0_A (A0 m) c w)

set_option backward.isDefEq.respectTransparency.types false in
/-- The second region's record. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => iprop(emp)) (fun _ => iprop(emp)) launch1.toP rfl
    (fun c => (nms_obligation (A1 m) c).loose) (fun _ _ => rfl) (fun _ => rfl)
    (fun c => (dat1 (A1 m) c).share_full fun _ => rfl)
    (fun c => by show _ ⊢ Pipeline.scopedRest spec1 c; iintro ⟨H, -⟩; iexact H)
    (fun c => by show Pipeline.scopedRest spec1 c ⊢ _; iintro H; isplitl [H]; · iexact H
                 iempintro)
    (fun _ => 0) (cut 1) (fun _ => iprop(emp)) (V5 m (outsA m)) (fun c w => dat1_A (A1 m) c w)

theorem arr0_sub : Pipeline.arrRefs (τ := τ) spec0 ⊆ Pipeline.ucRefs τ sig := Pipeline.arrRefs_sub_ucRefs spec0 (by decide)
theorem arr1_sub : Pipeline.arrRefs (τ := τ) spec1 ⊆ Pipeline.ucRefs τ sig := Pipeline.arrRefs_sub_ucRefs spec1 (by decide)

/-- After the first region: its output at `res0`, every other buffer as before. -/
theorem after0 (c : Dev nD) (b : DevRef τ sig) (hb : b ∈ Pipeline.ucRefs τ sig) :
    Pipeline.afterRegion (dat0 (A0 m) c) (V1 m c) b = V2 m (outsB m) c b := by
  obtain ⟨r, rfl⟩ : ∃ r : Ref sig .tc, Proc.devRef .tc r = b := by
    obtain ⟨r, -, h⟩ := Finset.mem_map.mp (Finset.mem_filter.mp hb).1; exact ⟨r, h⟩
  by_cases h : r = main_v24
  · subst h
    refine (Pipeline.afterRegion_arr (dat0 (A0 m) c) (V1 m c) launch0.win.arr_inj 4).trans ?_
    simp only [V2]
    show _ = Function.update (V1 m c) (Proc.devRef .tc main_v24) (outsB m 2 main_v24 c) (Proc.devRef .tc main_v24)
    rw [Function.update_self]
    exact (outsB_v24 m c).symm
  · rw [Pipeline.afterRegion_keeps (dat0 (A0 m) c) (V1 m c) launch0.win.arr_inj (fun w => dat0_A (A0 m) c w) r
      (fun w hw => by
        subst hw; revert h
        match w with
        | 0 => exact fun _ => rfl
        | 1 => exact fun _ => rfl
        | 2 => exact fun _ => rfl
        | 3 => exact fun _ => rfl
        | 4 => exact fun h => absurd rfl h)]
    exact (V2_of m (outsB m) c r (by simpa using h)).symm

/-- After the second region: its output at `res1`, every other buffer as before. -/
theorem after1 (c : Dev nD) (b : DevRef τ sig) (hb : b ∈ Pipeline.ucRefs τ sig) :
    Pipeline.afterRegion (dat1 (A1 m) c) (V5 m (outsA m) c) b = V6 m (outsB m) c b := by
  obtain ⟨r, rfl⟩ : ∃ r : Ref sig .tc, Proc.devRef .tc r = b := by
    obtain ⟨r, -, h⟩ := Finset.mem_map.mp (Finset.mem_filter.mp hb).1; exact ⟨r, h⟩
  by_cases h : r = main_v28
  · subst h
    refine (Pipeline.afterRegion_arr (dat1 (A1 m) c) (V5 m (outsA m) c) launch1.win.arr_inj 1).trans ?_
    simp only [V6]
    show _ = Function.update (V5 m (outsB m) c) (Proc.devRef .tc main_v28) (outsB m 6 main_v28 c) (Proc.devRef .tc main_v28)
    rw [Function.update_self]
    exact (outsB_v28 m c).symm
  · rw [Pipeline.afterRegion_keeps (dat1 (A1 m) c) (V5 m (outsA m) c) launch1.win.arr_inj (fun w => dat1_A (A1 m) c w) r
      (fun w hw => by
        subst hw; revert h
        match w with
        | 0 => exact fun _ => rfl
        | 1 => exact fun h => absurd rfl h)]
    exact (congrFun (V5_outs m c).symm _).trans (V6_of m (outsB m) c r (by simpa using h)).symm

set_option backward.isDefEq.respectTransparency.types false in
theorem pre0 (c : Dev nD) : iprop(StableHlo.held (c : Thread nD τ) (Pipeline.ucRefs τ sig) (V1 m c) ∗ Rd (F := F) 0 c) ⊢ (R0 m).pre c :=
by
  unfold R0
  exact RegionSeg.ofHeldIn_pre (pcs := pcfgs (F := F)) (a := adm) (pdats := pdats m) (ι := ()) (defs₀ := defs₀) (𝒱₀ := Variants.none) (L := L) (lv := lv) (p := 0) (D := fun _ => 0)
    (S := Pipeline.ucRefs τ sig) (X := fun _ => iprop(emp)) (Y := fun _ => iprop(emp)) (R := fun _ => iprop(emp)) (W := V1 m) arr0_sub c

set_option backward.isDefEq.respectTransparency.types false in
theorem post0 (c : Dev nD) : (R0 m).post c ⊢ iprop(StableHlo.held (c : Thread nD τ) (Pipeline.ucRefs τ sig) (V2 m (outsB m) c) ∗ Rd (F := F) 1 c) := by
  rw [← StableHlo.held_congr (c : Thread nD τ) (after0 m c)]
  unfold R0
  exact RegionSeg.ofHeldIn_post (pcs := pcfgs (F := F)) (a := adm) (pdats := pdats m) (ι := ()) (defs₀ := defs₀) (𝒱₀ := Variants.none) (L := L) (lv := lv) (p := 0) (D := fun _ => 0)
    (S := Pipeline.ucRefs τ sig) (X := fun _ => iprop(emp)) (Y := fun _ => iprop(emp)) (R := fun _ => iprop(emp)) (W := V1 m) arr0_sub c

set_option backward.isDefEq.respectTransparency.types false in
theorem pre1 (c : Dev nD) : iprop(StableHlo.held (c : Thread nD τ) (Pipeline.ucRefs τ sig) (V5 m (outsB m) c) ∗ Rd (F := F) 1 c) ⊢ (R1 m).pre c := by
  rw [V5_outs]
  unfold R1
  exact RegionSeg.ofHeldIn_pre (pcs := pcfgs (F := F)) (a := adm) (pdats := pdats m) (ι := ()) (defs₀ := defs₀) (𝒱₀ := Variants.none) (L := L) (lv := lv) (p := 1) (D := fun _ => 0)
    (S := Pipeline.ucRefs τ sig) (X := fun _ => iprop(emp)) (Y := fun _ => iprop(emp)) (R := fun _ => iprop(emp)) (W := V5 m (outsA m)) arr1_sub c

set_option backward.isDefEq.respectTransparency.types false in
theorem post1 (c : Dev nD) : (R1 m).post c ⊢ iprop(StableHlo.held (c : Thread nD τ) (Pipeline.ucRefs τ sig) (V6 m (outsB m) c) ∗ Rd (F := F) 2 c) := by
  rw [← StableHlo.held_congr (c : Thread nD τ) (after1 m c)]
  unfold R1
  exact RegionSeg.ofHeldIn_post (pcs := pcfgs (F := F)) (a := adm) (pdats := pdats m) (ι := ()) (defs₀ := defs₀) (𝒱₀ := Variants.none) (L := L) (lv := lv) (p := 1) (D := fun _ => 0)
    (S := Pipeline.ucRefs τ sig) (X := fun _ => iprop(emp)) (Y := fun _ => iprop(emp)) (R := fun _ => iprop(emp)) (W := V5 m (outsA m)) arr1_sub c

/-! ## The launch -/

/-- The launch element: the pipelines' rounds, nothing beside them. -/
def u₀ : UU := (initOf (Pipeline.cells cfgs cellOf_inj) (Pipeline.launchToks cfgs cellOf_inj), 1)

/-- What a final state holds on core `c`. -/
abbrev Fin1 (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_v30) = V7 m (outsB m) c main_v30

set_option backward.isDefEq.respectTransparency.types false in
/-- Every weakly fair execution from memory `m` with zero counters terminates with the arguments as launched, the
    result at the last contents, and every counter at zero. -/
theorem run : θ_run defs (onTc (τ := τ) (main (F := F))) ⟨m, fun _ => 0, ρ⟩
    (fun r => (∀ c : Dev nD, Fin1 m c r.2) ∧ r.2.sem = fun _ => 0) := by
  refine Pipeline.θ_run_regions_kit_dev_sems (pcfgs (F := F)) adm (pdats m) () cellOf_inj EP defs₀ Variants.none L lv m ρ main
    (segs m (outsB m) Variants.none L lv Rd () (pdats m) (R0 m) (R1 m))
    (fun c Q => by
      rewrite [main_chain c, Seg.run_eq_chain,
        show (segs m (outsB m) Variants.none L lv Rd () (pdats m) (R0 m) (R1 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide)
    (fun _ => 0) (fun g h => if_neg h) (fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rd (F := F) 0 c))
    (Tₙ := fun c => StableHlo.held (c : Thread nD τ) (Pipeline.ucRefs τ sig) (V7 m (outsB m) c))
    (hch := fun c => ⟨.rfl, pre0 m c, post0 m c, .rfl, .rfl, pre1 m c, post1 m c,
      sep_mono .rfl (by iintro ⟨H, -⟩; iexact H)⟩)
    (hinit := ?_) (QY := Fin1 m)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (V7 m (outsB m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V7_main_arg0 m (outsB m) c),
        (h (Proc.devRef .tc main_arg1) (Finset.mem_filter.mpr ⟨StableHlo.devRef_mem_tcRefs main_arg1, by decide⟩)).trans (V7_main_arg1 m (outsB m) c),
        (h (Proc.devRef .tc main_arg2) (Finset.mem_filter.mpr ⟨StableHlo.devRef_mem_tcRefs main_arg2, by decide⟩)).trans (V7_main_arg2 m (outsB m) c),
        (h (Proc.devRef .tc main_arg3) (Finset.mem_filter.mpr ⟨StableHlo.devRef_mem_tcRefs main_arg3, by decide⟩)).trans (V7_main_arg3 m (outsB m) c),
        h (Proc.devRef .tc main_v30) (Finset.mem_filter.mpr ⟨StableHlo.devRef_mem_tcRefs main_v30, by decide⟩)⟩
    · iexact HSI

end Cert.Proof.I

end
-- ==== Proof.Greedy.lean ====
/- Greedy selection: one run over all candidates, in which an element removes only elements of its own class, picks in order
   the elements that the runs inside the classes pick. Nothing here is about a program. -/
module

public import Mathlib.Data.Set.Basic
public import Mathlib.Order.Defs.LinearOrder
public import Mathlib.Tactic.Common

@[expose] public section

namespace Cert.Proof

/-- A greedy run: `A t` is what is still alive before step `t`, `p t` what step `t` picks, the element of `A t` that comes
    before all others of `A t`; it removes what it is related to. With nothing alive nothing is picked. -/
structure GreedyRun {ι : Type} (lt : ι → ι → Prop) (cand : ι → Prop) (R : ι → ι → Prop) (A : ℕ → ι → Prop)
    (p : ℕ → Option ι) : Prop where
  start : ∀ k, A 0 k ↔ cand k
  none_dead : ∀ t, p t = none → ∀ k, ¬ A t k
  none_step : ∀ t, p t = none → ∀ k, A (t + 1) k ↔ A t k
  some_alive : ∀ t j, p t = some j → A t j
  some_least : ∀ t j, p t = some j → ∀ k, A t k → k = j ∨ lt j k
  some_step : ∀ t j, p t = some j → ∀ k, A (t + 1) k ↔ A t k ∧ ¬ R j k

namespace GreedyRun

variable {ι : Type} {lt : ι → ι → Prop} {cand : ι → Prop} {R : ι → ι → Prop} {A : ℕ → ι → Prop} {p : ℕ → Option ι}

/-- What is alive after a step was alive before it. -/
theorem anti_step (h : GreedyRun lt cand R A p) (t : ℕ) (k : ι) (hk : A (t + 1) k) : A t k := by
  rcases hp : p t with _ | j
  · exact (h.none_step t hp k).mp hk
  · exact ((h.some_step t j hp k).mp hk).1

/-- What is alive later was alive before. -/
theorem anti (h : GreedyRun lt cand R A p) {t u : ℕ} (htu : t ≤ u) (k : ι) (hk : A u k) : A t k := by
  induction u, htu using Nat.le_induction with
  | base => exact hk
  | succ u _ ih => exact ih (h.anti_step u k hk)

/-- Everything alive is a candidate. -/
theorem cand_of_alive (h : GreedyRun lt cand R A p) {t : ℕ} {k : ι} (hk : A t k) : cand k :=
  (h.start k).mp (h.anti (Nat.zero_le t) k hk)

/-- A picked element is no longer alive. -/
theorem picked_dead (h : GreedyRun lt cand R A p) (hR : ∀ k, cand k → R k k) {t u : ℕ} {j : ι} (hu : p u = some j)
    (hut : u < t) : ¬ A t j := fun hA =>
  ((h.some_step u j hu j).mp (h.anti hut j hA)).2 (hR j (h.cand_of_alive (h.some_alive u j hu)))

/-- After a step that picks nothing, nothing is picked. -/
theorem none_stays (h : GreedyRun lt cand R A p) {t u : ℕ} (ht : p t = none) (htu : t ≤ u) : p u = none := by
  rcases hp : p u with _ | j
  · rfl
  · exact absurd (h.anti htu j (h.some_alive u j hp)) (h.none_dead t ht j)

end GreedyRun

/-- An element is kept when the run of its class picks it in one of the first `T` steps. -/
def KeptBy {ι κ : Type} (cls : ι → κ) (pc : κ → ℕ → Option ι) (T : ℕ) (k : ι) : Prop := ∃ n < T, pc (cls k) n = some k

section Simulation

variable {ι κ : Type} {lt : ι → ι → Prop} {cand : ι → Prop} {ov : ι → ι → Prop} {cls : ι → κ}
  {A : ℕ → ι → Prop} {p : ℕ → Option ι} {Ac : κ → ℕ → ι → Prop} {pc : κ → ℕ → Option ι}

/-- After `t` steps the whole run is, on each class, that class's run after some `n ≤ t` steps: alive and picked agree. -/
theorem greedy_classes (hlt : ∀ i j, lt i j → ¬ lt j i) (h : GreedyRun lt cand (fun i k => cls i = cls k ∧ ov i k) A p)
    (hc : ∀ c, GreedyRun lt (fun k => cand k ∧ cls k = c) ov (Ac c) (pc c)) (c : κ) :
    ∀ t, ∃ n ≤ t, (∀ k, Ac c n k ↔ A t k ∧ cls k = c) ∧
      ∀ k, cls k = c → ((∃ u < t, p u = some k) ↔ ∃ u < n, pc c u = some k) := by
  intro t
  induction t with
  | zero =>
    refine ⟨0, le_refl _, fun k => ?_, fun k _ => ?_⟩
    · rw [(hc c).start, h.start]
    · simp
  | succ t ih =>
    obtain ⟨n, hn, hA, hP⟩ := ih
    rcases hp : p t with _ | j
    · refine ⟨n, by omega, fun k => ?_, fun k hk => ?_⟩
      · rw [hA, h.none_step t hp]
      · rw [← hP k hk]
        constructor
        · rintro ⟨u, hu, hpu⟩
          rcases Nat.lt_succ_iff_lt_or_eq.mp hu with hlt' | rfl
          · exact ⟨u, hlt', hpu⟩
          · rw [hp] at hpu; exact absurd hpu (by simp)
        · rintro ⟨u, hu, hpu⟩; exact ⟨u, by omega, hpu⟩
    · by_cases hj : cls j = c
      · have hjA : Ac c n j := (hA j).mpr ⟨h.some_alive t j hp, hj⟩
        have hpc : pc c n = some j := by
          rcases hq : pc c n with _ | i
          · exact absurd hjA ((hc c).none_dead n hq j)
          · have hi := (hA i).mp ((hc c).some_alive n i hq)
            rcases (hc c).some_least n i hq j hjA with e | l
            · rw [e]
            · rcases h.some_least t j hp i hi.1 with e | l'
              · rw [e]
              · exact absurd l' (hlt _ _ l)
        refine ⟨n + 1, by omega, fun k => ?_, fun k hk => ?_⟩
        · rw [(hc c).some_step n j hpc, hA, h.some_step t j hp]
          constructor
          · rintro ⟨⟨a, b⟩, d⟩; exact ⟨⟨a, fun e => d e.2⟩, b⟩
          · rintro ⟨⟨a, d⟩, b⟩; exact ⟨⟨a, b⟩, fun e => d ⟨hj.trans b.symm, e⟩⟩
        · constructor
          · rintro ⟨u, hu, hpu⟩
            rcases Nat.lt_succ_iff_lt_or_eq.mp hu with hlt' | rfl
            · obtain ⟨v, hv, hpv⟩ := (hP k hk).mp ⟨u, hlt', hpu⟩
              exact ⟨v, by omega, hpv⟩
            · exact ⟨n, by omega, by rw [hpc, ← hp, hpu]⟩
          · rintro ⟨u, hu, hpu⟩
            rcases Nat.lt_succ_iff_lt_or_eq.mp hu with hlt' | rfl
            · obtain ⟨v, hv, hpv⟩ := (hP k hk).mpr ⟨u, hlt', hpu⟩
              exact ⟨v, by omega, hpv⟩
            · exact ⟨t, by omega, by rw [hp, ← hpc, hpu]⟩
      · refine ⟨n, by omega, fun k => ?_, fun k hk => ?_⟩
        · rw [hA, h.some_step t j hp]
          constructor
          · rintro ⟨a, b⟩; exact ⟨⟨a, fun e => hj (e.1.trans b)⟩, b⟩
          · rintro ⟨⟨a, _⟩, b⟩; exact ⟨a, b⟩
        · rw [← hP k hk]
          constructor
          · rintro ⟨u, hu, hpu⟩
            rcases Nat.lt_succ_iff_lt_or_eq.mp hu with hlt' | rfl
            · exact ⟨u, hlt', hpu⟩
            · rw [hp] at hpu; obtain rfl := Option.some.inj hpu; exact absurd hk hj
          · rintro ⟨u, hu, hpu⟩; exact ⟨u, by omega, hpu⟩

/-- What the whole run picks in its first `T` steps is kept. -/
theorem kept_of_pick (hlt : ∀ i j, lt i j → ¬ lt j i) (h : GreedyRun lt cand (fun i k => cls i = cls k ∧ ov i k) A p)
    (hc : ∀ c, GreedyRun lt (fun k => cand k ∧ cls k = c) ov (Ac c) (pc c)) {T t : ℕ} (ht : t < T) {j : ι}
    (hp : p t = some j) : KeptBy cls pc T j := by
  obtain ⟨n, hn, -, hP⟩ := greedy_classes hlt h hc (cls j) (t + 1)
  obtain ⟨u, hu, hpu⟩ := (hP j rfl).mp ⟨t, by omega, hp⟩
  exact ⟨u, by omega, hpu⟩

/-- What is kept has been picked by the whole run before step `t`, or is alive then. -/
theorem kept_split (hlt : ∀ i j, lt i j → ¬ lt j i) (h : GreedyRun lt cand (fun i k => cls i = cls k ∧ ov i k) A p)
    (hc : ∀ c, GreedyRun lt (fun k => cand k ∧ cls k = c) ov (Ac c) (pc c)) {T : ℕ} (t : ℕ) {k : ι}
    (hk : KeptBy cls pc T k) : (∃ u < t, p u = some k) ∨ A t k := by
  obtain ⟨u, hu, hpu⟩ := hk
  obtain ⟨n, hn, hA, hP⟩ := greedy_classes hlt h hc (cls k) t
  by_cases hun : u < n
  · exact .inl ((hP k rfl).mpr ⟨u, hun, hpu⟩)
  · exact .inr ((hA k).mp ((hc _).anti (by omega) k ((hc _).some_alive u k hpu))).1

/-- Listing everything so that what is kept comes first, in the runs' order, the list begins with the whole run's picks; and
    past the last pick it lists nothing that is kept. `σ` is the listing, `before` its order. -/
theorem listed_picks {n : ℕ} (hlt : ∀ i j, lt i j → ¬ lt j i) (h : GreedyRun lt cand (fun i k => cls i = cls k ∧ ov i k) A p)
    (hc : ∀ c, GreedyRun lt (fun k => cand k ∧ cls k = c) ov (Ac c) (pc c)) (hR : ∀ k, cand k → ov k k) {T : ℕ}
    (σ : Fin n → ι) (before : ι → ι → Prop) (hinj : Function.Injective σ) (hsurj : Function.Surjective σ)
    (hasym : ∀ i j, before i j → ¬ before j i) (hσ : ∀ a b, a < b → before (σ a) (σ b))
    (hkept : ∀ i j, KeptBy cls pc T i → KeptBy cls pc T j → lt i j → before i j)
    (hrest : ∀ i j, KeptBy cls pc T i → ¬ KeptBy cls pc T j → before i j) :
    ∀ t (htT : t < T) (htn : t < n), (∀ j, p t = some j → σ ⟨t, htn⟩ = j) ∧ (p t = none → ¬ KeptBy cls pc T (σ ⟨t, htn⟩)) := by
  intro t
  induction t using Nat.strong_induction_on with
  | _ t ih =>
    intro htT htn
    have hfresh : ¬ ∃ u < t, p u = some (σ ⟨t, htn⟩) := by
      rintro ⟨u, hu, hpu⟩
      have e := (ih u hu (by omega) (by omega)).1 _ hpu
      have := congrArg Fin.val (hinj e)
      simp only at this
      omega
    refine ⟨fun j hj => ?_, fun hnone hk => ?_⟩
    · obtain ⟨q, rfl⟩ := hsurj j
      have hjK := kept_of_pick hlt h hc htT hj
      rcases lt_trichotomy q.val t with hq | hq | hq
      · exfalso
        rcases hpq : p q.val with _ | i
        · have := h.none_stays hpq (Nat.le_of_lt hq)
          rw [hj] at this; exact absurd this (by simp)
        · have e : σ q = i := (ih q.val hq (by omega) q.isLt).1 i hpq
          subst e
          exact h.picked_dead (fun k hk => ⟨rfl, hR k hk⟩) hpq hq (h.some_alive t _ hj)
      · congr 1; exact Fin.ext hq.symm
      · exfalso
        have hb : before (σ ⟨t, htn⟩) (σ q) := hσ _ _ hq
        have hne : σ ⟨t, htn⟩ ≠ σ q := fun e => by
          have := congrArg Fin.val (hinj e); simp only at this; omega
        by_cases hk : KeptBy cls pc T (σ ⟨t, htn⟩)
        · rcases kept_split hlt h hc t hk with hp | hA
          · exact hfresh hp
          · rcases h.some_least t _ hj _ hA with e | l
            · exact hne e
            · exact hasym _ _ hb (hkept _ _ hjK hk l)
        · exact hasym _ _ hb (hrest _ _ hjK hk)
    · rcases kept_split hlt h hc t hk with hp | hA
      · exact hfresh hp
      · exact h.none_dead t hnone _ hA

end Simulation

end Cert.Proof
-- ==== Proof.Trips.lean ====
/- Selection by repeated first maximum. `FirstMax` names the first of the largest values; a loop that takes it and strikes
   out what it is related to is a greedy run. Nothing here is about a program. -/
module

public import proofs.«01_k».proof.Proof.Greedy
public import Mathlib.Data.EReal.Operations
public import Mathlib.Data.Finset.Max
public import Mathlib.Data.Fintype.Basic

@[expose] public section

namespace Cert.Proof

/-- `k` holds the largest value of `f`, and of the places that do it has the least position. -/
structure FirstMax {X : Type} (pos : X → ℕ) (f : X → EReal) (k : X) : Prop where
  max : ∀ x, f x ≤ f k
  first : ∀ x, f x = f k → pos k ≤ pos x

/-- There is such a place. -/
theorem exists_firstMax {X : Type} [Fintype X] [Nonempty X] (pos : X → ℕ) (f : X → EReal) : ∃ k, FirstMax pos f k := by
  classical
  obtain ⟨a, -, ha⟩ := Finset.exists_max_image (Finset.univ : Finset X) f Finset.univ_nonempty
  obtain ⟨k, hk, hmin⟩ := Finset.exists_min_image (Finset.univ.filter fun x => f x = f a) pos
    ⟨a, by simp⟩
  have hk' : f k = f a := by simpa using hk
  exact ⟨k, fun x => hk' ▸ ha x (Finset.mem_univ x), fun x hx => hmin x (by simp [hx, hk'])⟩

/-- And, with distinct positions, only one. -/
theorem FirstMax.unique {X : Type} {pos : X → ℕ} (hpos : Function.Injective pos) {f : X → EReal} {k l : X}
    (hk : FirstMax pos f k) (hl : FirstMax pos f l) : k = l := by
  have e : f k = f l := le_antisymm (hl.max k) (hk.max l)
  exact hpos (le_antisymm (hk.first l e.symm) (hl.first k e))

/-- The place itself. -/
noncomputable def star {X : Type} [Fintype X] [Nonempty X] (pos : X → ℕ) (f : X → EReal) : X :=
  (exists_firstMax pos f).choose

theorem star_spec {X : Type} [Fintype X] [Nonempty X] (pos : X → ℕ) (f : X → EReal) : FirstMax pos f (star pos f) :=
  (exists_firstMax pos f).choose_spec

/-- Higher value first, equal values by position. -/
def ranks {n : ℕ} (s : Fin n → EReal) (i j : Fin n) : Prop := s j < s i ∨ (s i = s j ∧ i < j)

theorem ranks_asymm {n : ℕ} (s : Fin n → EReal) (i j : Fin n) (h : ranks s i j) : ¬ ranks s j i := by
  rintro (h' | ⟨e', h'⟩) <;> rcases h with h | ⟨e, h⟩
  · exact lt_asymm h h'
  · exact absurd e (ne_of_lt h')
  · exact absurd e' (ne_of_lt h)
  · exact absurd h (not_lt.mpr (le_of_lt h'))

theorem neg_one_lt_zero_ereal : (-1 : EReal) < 0 := by
  have h : ((-1 : ℝ) : EReal) < ((0 : ℝ) : EReal) := EReal.coe_lt_coe_iff.mpr (by norm_num)
  simpa using h

/-- What one step takes, as a candidate's number. -/
noncomputable def pickOf {X : Type} (n : ℕ) (pos : X → ℕ) (v : EReal) (k : X) : Option (Fin n) :=
  open Classical in if h : 0 ≤ v ∧ pos k < n then some ⟨pos k, h.2⟩ else none

section Loop

variable {X : Type} {n : ℕ} {pos : X → ℕ} {e : Fin n → X} {sc : ℕ → X → EReal} {at' : ℕ → X} {rel : X → X → Prop}
  {cand : Fin n → Prop} {s : Fin n → EReal}

/-- A value is what it was at the start, or struck out. -/
theorem loop_value (hstep : ∀ t x, (0 ≤ sc t (at' t) ∧ rel (at' t) x → sc (t + 1) x = -1) ∧
    (¬ (0 ≤ sc t (at' t) ∧ rel (at' t) x) → sc (t + 1) x = sc t x)) (t : ℕ) (x : X) : sc t x = -1 ∨ sc t x = sc 0 x := by
  classical
  induction t with
  | zero => exact .inr rfl
  | succ t ih =>
    by_cases h : 0 ≤ sc t (at' t) ∧ rel (at' t) x
    · exact .inl ((hstep t x).1 h)
    · rw [(hstep t x).2 h]; exact ih

/-- The loop is a greedy run over the candidates, and what it takes has the value it started with. -/
theorem loop_greedy (he : ∀ i, pos (e i) = i) (hpos : Function.Injective pos)
    (hat : ∀ t, FirstMax pos (sc t) (at' t)) (hs : ∀ i, cand i → 0 ≤ s i)
    (h0 : ∀ i, (cand i → sc 0 (e i) = s i) ∧ (¬ cand i → sc 0 (e i) = -1)) (hpad : ∀ x, n ≤ pos x → sc 0 x = -1)
    (hstep : ∀ t x, (0 ≤ sc t (at' t) ∧ rel (at' t) x → sc (t + 1) x = -1) ∧
      (¬ (0 ≤ sc t (at' t) ∧ rel (at' t) x) → sc (t + 1) x = sc t x)) :
    GreedyRun (ranks s) cand (fun i k => rel (e i) (e k)) (fun t i => 0 ≤ sc t (e i))
        (fun t => pickOf n pos (sc t (at' t)) (at' t)) ∧
      (∀ t j, pickOf n pos (sc t (at' t)) (at' t) = some j → at' t = e j ∧ 0 ≤ sc t (at' t) ∧ sc t (at' t) = s j) ∧
      (∀ t, pickOf n pos (sc t (at' t)) (at' t) = none → ¬ 0 ≤ sc t (at' t)) := by
  classical
  have hneg : ¬ (0 : EReal) ≤ -1 := not_le.mpr neg_one_lt_zero_ereal
  have hval := loop_value hstep
  have hin : ∀ t x, 0 ≤ sc t x → pos x < n ∧ sc t x = sc 0 x := by
    intro t x hx
    rcases hval t x with h | h
    · rw [h] at hx; exact absurd hx hneg
    · refine ⟨?_, h⟩
      by_contra hp
      rw [h, hpad x (not_lt.mp hp)] at hx
      exact hneg hx
  have halive : ∀ t i, 0 ≤ sc t (e i) → cand i ∧ sc t (e i) = s i := by
    intro t i hi
    have h := (hin t _ hi).2
    by_cases hc : cand i
    · exact ⟨hc, h.trans ((h0 i).1 hc)⟩
    · rw [h, (h0 i).2 hc] at hi; exact absurd hi hneg
  have hsome : ∀ t j, pickOf n pos (sc t (at' t)) (at' t) = some j → at' t = e j ∧ 0 ≤ sc t (at' t) := by
    intro t j hj
    unfold pickOf at hj
    split at hj
    · rename_i h
      have hj' := congrArg Fin.val (Option.some.inj hj)
      simp only at hj'
      exact ⟨hpos (by rw [he, hj']), h.1⟩
    · exact absurd hj (by simp)
  have hnone : ∀ t, pickOf n pos (sc t (at' t)) (at' t) = none → ¬ 0 ≤ sc t (at' t) := by
    intro t h h'
    unfold pickOf at h
    rw [dif_pos ⟨h', (hin t _ h').1⟩] at h
    exact absurd h (by simp)
  refine ⟨⟨fun k => ⟨fun h => (halive 0 k h).1, fun h => ?_⟩, fun t h k hk => ?_, fun t h k => ?_, fun t j h => ?_,
    fun t j h k hk => ?_, fun t j h k => ?_⟩, fun t j h => ?_, hnone⟩
  · show 0 ≤ sc 0 (e k)
    rw [(h0 k).1 h]; exact hs k h
  · exact hnone t h (le_trans hk ((hat t).max _))
  · show 0 ≤ sc (t + 1) (e k) ↔ 0 ≤ sc t (e k)
    rw [(hstep t (e k)).2 (fun h' => hnone t h h'.1)]
  · obtain ⟨ea, hv⟩ := hsome t j h
    show 0 ≤ sc t (e j)
    rw [← ea]; exact hv
  · obtain ⟨ea, hv⟩ := hsome t j h
    have hj : sc t (e j) = s j := (halive t j (ea ▸ hv)).2
    have hk' : sc t (e k) = s k := (halive t k hk).2
    have hle : s k ≤ s j := by rw [← hj, ← hk', ← ea]; exact (hat t).max _
    rcases lt_or_eq_of_le hle with hl | hl
    · exact .inr (.inl hl)
    · have hp : pos (at' t) ≤ pos (e k) := (hat t).first _ (by rw [ea, hj, hk', hl])
      rw [ea, he, he] at hp
      rcases lt_or_eq_of_le hp with hp' | hp'
      · exact .inr (.inr ⟨hl.symm, hp'⟩)
      · exact .inl (Fin.ext hp'.symm)
  · obtain ⟨ea, hv⟩ := hsome t j h
    show 0 ≤ sc (t + 1) (e k) ↔ 0 ≤ sc t (e k) ∧ ¬ rel (e j) (e k)
    by_cases hr : rel (at' t) (e k)
    · rw [(hstep t (e k)).1 ⟨hv, hr⟩]
      rw [ea] at hr
      exact ⟨fun h' => absurd h' hneg, fun h' => absurd hr h'.2⟩
    · rw [(hstep t (e k)).2 (fun h' => hr h'.2)]
      rw [ea] at hr
      exact ⟨fun h' => ⟨h', hr⟩, fun h' => h'.1⟩
  · obtain ⟨ea, hv⟩ := hsome t j h
    exact ⟨ea, hv, by rw [ea]; exact (halive t j (ea ▸ hv)).2⟩

end Loop

end Cert.Proof
-- ==== Proof.Spec.lean ====
/- The numbers that both programs compute before any selection, spelled over the four argument arrays: each region's class
   and score, its refined and clipped box, and the overlap of two boxes. -/
module

public import proofs.«01_k».proof.Proof.Trips
public import Idealize.ShloMosaic.Lib.Pointwise

@[expose] public section

noncomputable section

namespace Cert.Proof.Spec

open Idealize.ShloMosaic

/-- The regions, the class probabilities and the class deltas, as arrays of extended reals. -/
abbrev Rois : Type := (⟨3, ![2, 5000, 4]⟩ : Shape).Idx → EReal
abbrev Probs : Type := (⟨3, ![2, 5000, 81]⟩ : Shape).Idx → EReal
abbrev Deltas : Type := (⟨4, ![2, 5000, 81, 4]⟩ : Shape).Idx → EReal
/-- The window of each image. -/
abbrev Win : Type := Fin 2 → Fin 4 → EReal

abbrev half : EReal := Ideal.ofBits .f32 0x3F000000#32
abbrev tenth : EReal := Ideal.ofBits .f32 0x3DCCCCCD#32
abbrev fifth : EReal := Ideal.ofBits .f32 0x3E4CCCCD#32
abbrev conf : EReal := Ideal.ofBits .f32 0x3F333333#32
abbrev thr : EReal := Ideal.ofBits .f32 0x3E99999A#32
abbrev tiny : EReal := Ideal.ofBits .f32 0x2EDBE6FF#32

variable (R : Rois) (P : Probs) (D : Deltas) (W : Win) (b : Fin 2) (i k : Fin 5000)

/-- The class of the largest probability, the first one of several. -/
def cls : Fin 81 := star (fun k : Fin 81 => k.val) fun k => P (ix3 b i k)
/-- That probability. -/
def score : EReal := P (ix3 b i (cls P b i))
/-- The delta of that class. -/
def delta (d : Fin 4) : EReal := D (ix4 b i (cls P b i) d)

/-- Along axis 0 or 1: the region's extent … -/
def ext (lo hi : Fin 4) : EReal := R (ix3 b i hi) - R (ix3 b i lo)
/-- … the refined box's extent … -/
def ext' (lo hi : Fin 4) : EReal := ext R b i lo hi * Ideal.exp (delta P D b i hi * fifth)
/-- … its lower side … -/
def low (lo hi : Fin 4) : EReal :=
  R (ix3 b i lo) + half * ext R b i lo hi + (delta P D b i lo * tenth) * ext R b i lo hi - half * ext' R P D b i lo hi
/-- … and its upper side. -/
def high (lo hi : Fin 4) : EReal := low R P D b i lo hi + ext' R P D b i lo hi

/-- A coordinate clipped to the window. -/
def clip (x : EReal) (lo hi : Fin 4) : EReal := min (max x (W b lo)) (W b hi)

/-- The four coordinates of the refined box: top, left, bottom, right. -/
def y1 : EReal := clip W b (low R P D b i 0 2) 0 2
def x1 : EReal := clip W b (low R P D b i 1 3) 1 3
def y2 : EReal := clip W b (high R P D b i 0 2) 0 2
def x2 : EReal := clip W b (high R P D b i 1 3) 1 3

/-- The overlap of two boxes' coordinates, as a quotient; the sides in the order top, left, bottom, right. -/
def inter (p q : Fin 4 → EReal) : EReal := max (min (p 2) (q 2) - max (p 0) (q 0)) 0 * max (min (p 3) (q 3) - max (p 1) (q 1)) 0
def area (p : Fin 4 → EReal) : EReal := (p 2 - p 0) * (p 3 - p 1)
def iou (p q : Fin 4 → EReal) : EReal := Ideal.div (inter p q) (max (area p + area q - inter p q) tiny)

/-- The refined box. -/
def box : Fin 4 → EReal := ![y1 R P D W b i, x1 R P D W b i, y2 R P D W b i, x2 R P D W b i]

/-- A region takes part in the selection. -/
def cand : Prop := cls P b i ≠ 0 ∧ conf ≤ score P b i
/-- One box strikes out another. -/
def ov : Prop := thr < iou (box R P D W b i) (box R P D W b k)

end Cert.Proof.Spec
-- ==== Proof.Folds.lean ====
/- The reductions that both programs spell a choice with: a largest value, the first position that holds it, and a sum
   under a mask that one position passes. -/
module

public import proofs.«01_k».proof.Proof.Trips
public import Idealize.ShloMosaic.Lib.Pointwise

@[expose] public section

namespace Cert.Proof

open Idealize.ShloMosaic

variable {X : Type} [Fintype X]

/-- The fold of maxima from the bottom is the value at the first largest place. -/
theorem fold_max_eq {pos : X → ℕ} {f : X → EReal} {k : X} (hk : FirstMax pos f k) : (Finset.univ : Finset X).fold max ⊥ f = f k := by
  refine le_antisymm (Finset.fold_max_le _ |>.mpr ⟨bot_le, fun x _ => hk.max x⟩) ?_
  exact (Finset.le_fold_max _).mpr (.inr ⟨k, Finset.mem_univ k, le_rfl⟩)

/-- A fold of signed minima, read as an integer. -/
theorem toInt_fold_minsi (s : Finset X) (b : BitVec 32) (g : X → BitVec 32) :
    (s.fold IntOp.minsi b g).toInt = s.fold min b.toInt fun x => (g x).toInt := by
  classical
  induction s using Finset.induction_on with
  | empty => simp
  | insert a s ha ih =>
    rw [Finset.fold_insert ha, Finset.fold_insert ha, ← ih]
    generalize s.fold IntOp.minsi b g = z
    show (if (g a).slt z then g a else z).toInt = _
    by_cases h : (g a).toInt < z.toInt
    · rw [show (g a).slt z = true from decide_eq_true h, if_pos rfl, min_eq_left (le_of_lt h)]
    · rw [show (g a).slt z = false from decide_eq_false h, if_neg Bool.false_ne_true, min_eq_right (not_lt.mp h)]

theorem toInt_ofNat_lt {n : ℕ} (h : n < 2 ^ 31) : (BitVec.ofNat 32 n).toInt = n := by
  rw [BitVec.toInt_eq_toNat_of_lt] <;> rw [BitVec.toNat_ofNat, Nat.mod_eq_of_lt (by omega)]; omega

/-- The signed minimum of the positions that hold the largest value is the first of them. -/
theorem fold_minsi_eq {pos : X → ℕ} {f : X → EReal} {k : X} (hk : FirstMax pos f k) (big init : BitVec 32)
    (hp : ∀ x, pos x < 2 ^ 31) (hb : ∀ x, (pos x : ℤ) ≤ big.toInt) (hi : ∀ x, (pos x : ℤ) ≤ init.toInt)
    (g : X → BitVec 32) (hg : ∀ x, (f x = f k → g x = BitVec.ofNat 32 (pos x)) ∧ (f x ≠ f k → g x = big)) :
    (Finset.univ : Finset X).fold IntOp.minsi init g = BitVec.ofNat 32 (pos k) := by
  apply BitVec.eq_of_toInt_eq
  rw [toInt_fold_minsi, toInt_ofNat_lt (hp k)]
  refine le_antisymm ((Finset.fold_min_le _).mpr (.inr ⟨k, Finset.mem_univ k, ?_⟩)) ((Finset.le_fold_min _).mpr ⟨hi k, fun x _ => ?_⟩)
  · rw [(hg k).1 rfl, toInt_ofNat_lt (hp k)]
  · by_cases h : f x = f k
    · rw [(hg x).1 h, toInt_ofNat_lt (hp x)]; exact_mod_cast hk.first x h
    · rw [(hg x).2 h]; exact hb k

/-- A sum that all places but one leave out. -/
theorem sum_at (k : X) (g : X → EReal) (v : EReal) (hk : g k = v) (h : ∀ x, x ≠ k → g x = 0) : ∑ x, g x = v := by
  classical
  rw [Finset.sum_eq_single k (fun x _ hx => h x hx) (fun h => absurd (Finset.mem_univ k) h), hk]

theorem bit_eq_iff (a b : BitVec 1) : a = b ↔ (a = 1#1 ↔ b = 1#1) := by
  revert a b; decide

theorem cmpi_eq_self {w : ℕ} (a b : BitVec w) (h : a = b) : IntOp.cmpi CmpIPredicate.eq a b = 1#1 := by
  subst h; simp [IntOp.cmpi]

theorem cmpi_eq_ne {w : ℕ} (a b : BitVec w) (h : a ≠ b) : IntOp.cmpi CmpIPredicate.eq a b = 0#1 := by
  show BitVec.ofBool (a == b) = 0#1
  rw [beq_eq_false_iff_ne.mpr h]; rfl

theorem cmpi_eq_iff {w : ℕ} (a b : BitVec w) : IntOp.cmpi CmpIPredicate.eq a b = 1#1 ↔ a = b := by
  by_cases h : a = b
  · exact ⟨fun _ => h, fun _ => cmpi_eq_self a b h⟩
  · simp [cmpi_eq_ne a b h, h]

theorem andi_one_iff (p q : BitVec 1) : IntOp.andi p q = 1#1 ↔ p = 1#1 ∧ q = 1#1 := by revert p q; decide

theorem ori_one_iff (p q : BitVec 1) : IntOp.ori p q = 1#1 ↔ p = 1#1 ∨ q = 1#1 := by revert p q; decide

theorem ofBool_decide_iff (p : Prop) [Decidable p] : BitVec.ofBool (decide p) = 1#1 ↔ p := by
  by_cases h : p <;> simp [h]

theorem bit_iff (p : Prop) [Decidable p] : (if p then 1#1 else 0#1 : BitVec 1) = 1#1 ↔ p := by
  by_cases h : p <;> simp [h]

/-- A choice by a bit, when the bit says whether `p`. -/
theorem select_iff {α : Type} {c : BitVec 1} {p : Prop} (h : c = 1#1 ↔ p) (a b : α) :
    (p → Scalar.select c a b = a) ∧ (¬ p → Scalar.select c a b = b) :=
  ⟨fun hp => if_pos (h.mpr hp), fun hp => if_neg fun e => hp (h.mp e)⟩

/-- The disjunction of many bits. -/
theorem fold_ori (g : X → BitVec 1) : (Finset.univ : Finset X).fold IntOp.ori 0#1 g = 1#1 ↔ ∃ x, g x = 1#1 := by
  classical
  have h : ∀ s : Finset X, s.fold IntOp.ori 0#1 g = 1#1 ↔ ∃ x ∈ s, g x = 1#1 := by
    intro s
    induction s using Finset.induction_on with
    | empty => simp
    | insert a s ha ih =>
      rw [Finset.fold_insert ha]
      rw [ori_one_iff, ih]
      simp
  rw [h]; simp

theorem ofBits_neg_inf : Ideal.ofBits .f32 0xFF800000#32 = ⊥ := by simp [Ideal.ofBits, Ideal.ieee]

theorem ofBits_neg_one : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h]; simp

theorem conf_pos : (0 : EReal) < Ideal.ofBits .f32 0x3F333333#32 := by
  have h : Ideal.ofBits .f32 0x3F333333#32 = ((11744051 * (2 ^ 24)⁻¹ : ℝ) : EReal) := by
    simp [Ideal.ofBits, Ideal.ieee, -EReal.coe_mul, -EReal.coe_neg]
  rw [h, ← EReal.coe_zero, EReal.coe_lt_coe_iff]; norm_num

end Cert.Proof
-- ==== Proof.KRef.lean ====
/- What the first kernel region stores for one region of interest, at the extended reals: its refined box, its score if it
   takes part in the selection, and its class. -/
module

public import proofs.«01_k».proof.Proof.IRefine
public import proofs.«01_k».proof.Proof.Spec
public import proofs.«01_k».proof.Proof.Folds

@[expose] public section

set_option maxRecDepth 65536

noncomputable section

namespace Cert.Proof.I

open Cert.KernelIdeal Cert.KernelIdeal.Gen
open Idealize.ShloMosaic

section
variable (x0 : Vec Ideal S1x1000x4 .f32) (x1 : Vec Ideal S1x1000x81 .f32) (x2 : Vec Ideal S1x1000x324 .f32) (x3 : Vec Ideal S1x1x4 .f32)
  (n : Fin 1000) {k : Fin 81} (hk : FirstMax (fun k : Fin 81 => k.val) (fun k => (x1 (ix3 0 n k) : EReal)) k)

include hk in
theorem ref3 : (k0_pay3 (F := Ideal) (View.ld x1 rProbs)) (ix2 n 0) = x1 (ix3 0 n k) := by
  refine Eq.trans ?_ (fold_max_eq (f := fun k : Fin 81 => (x1 (ix3 0 n k) : EReal)) hk)
  pointwise [k0_pay3, k0_pay2]
  rw [ofBits_neg_inf]

include hk in
theorem ref4 : (k0_pay4 (F := Ideal) (View.ld x1 rProbs)) (ix2 n 0) = BitVec.ofNat 32 k.val := by
  pointwise [k0_pay4, k0_pay2]
  rw [ref3 x1 n hk]
  refine fold_minsi_eq (f := fun k : Fin 81 => (x1 (ix3 0 n k) : EReal)) hk 81#32 2147483647#32 (fun x => by have := x.isLt; omega)
    (fun x => by have := x.isLt; have e : (81#32 : BitVec 32).toInt = 81 := by decide
                 rw [e]; omega)
    (fun x => by have := x.isLt; have e : (2147483647#32 : BitVec 32).toInt = 2147483647 := by decide
                 rw [e]; omega) _ (fun x => ⟨fun h => if_pos h, fun h => if_neg h⟩)

/-- The lane's number divided by four, as the kernel spells it. -/
theorem lane_div (l : Fin 324) : (Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 4#32 0#32))
              (Scalar.extui (Scalar.cmpi CmpIPredicate.slt 4#32 0#32))))
          (IntOp.cmpi CmpIPredicate.ne (IntOp.remsi ArithUnit.vector (BitVec.ofNat 32 l.val) 4#32) 0#32))
        (IntOp.subi (IntOp.divsi ArithUnit.vector (BitVec.ofNat 32 l.val) 4#32) 1#32)
        (IntOp.divsi ArithUnit.vector (BitVec.ofNat 32 l.val) 4#32)) = BitVec.ofNat 32 (l.val / 4) := by
  revert l; decide +kernel

include hk in
theorem ref6 (l : Fin 324) : k0_pay6 (F := Ideal) (View.ld x1 rProbs) (ix2 n l) = 1#1 ↔ l.val / 4 = k.val := by
  pointwise [k0_pay6]
  rw [lane_div, ref4 x1 n hk, cmpi_eq_iff]
  constructor
  · intro h
    have := congrArg BitVec.toNat h
    rw [BitVec.toNat_ofNat, BitVec.toNat_ofNat] at this
    omega
  · intro h; rw [h]

/-- The lane's number modulo four. -/
theorem ref9 (l : Fin 324) (n : Fin 1000) : k0_pay9 (iota .tc S1000x324 32 [1] iota_S1000x324_d1_w32) (ix2 n l) = BitVec.ofNat 32 (l.val % 4) := by
  pointwise [k0_pay9]
  revert l; decide +kernel

include hk in
/-- A sum over the lanes under both masks is the one lane's value. -/
theorem ref_sum (d : Fin 4) (w : BitVec 32) (hw : w = BitVec.ofNat 32 d.val) :
    (∑ l : Fin 324, Scalar.select (IntOp.cmpi CmpIPredicate.eq (k0_pay9 (iota .tc S1000x324 32 [1] iota_S1000x324_d1_w32) (ix2 n l)) w)
      (Scalar.select (k0_pay6 (F := Ideal) (View.ld x1 rProbs) (ix2 n l)) (x2 (ix3 0 n l)) (0 : EReal)) 0)
      = x2 (ix3 0 n ⟨4 * k.val + d.val, by omega⟩) := by
  subst hw
  have h9 : ∀ l : Fin 324, IntOp.cmpi CmpIPredicate.eq (k0_pay9 (iota .tc S1000x324 32 [1] iota_S1000x324_d1_w32) (ix2 n l)) (BitVec.ofNat 32 d.val) = 1#1
      ↔ l.val % 4 = d.val := by
    intro l
    rw [ref9, cmpi_eq_iff]
    constructor
    · intro h
      have := congrArg BitVec.toNat h
      rw [BitVec.toNat_ofNat, BitVec.toNat_ofNat] at this
      omega
    · intro h; rw [h]
  refine sum_at ⟨4 * k.val + d.val, by omega⟩ _ _ ?_ fun l hl => ?_
  · rw [(select_iff (h9 _) _ _).1 (by show (4 * k.val + d.val) % 4 = d.val; omega),
      (select_iff (ref6 x1 n hk _) _ _).1 (by show (4 * k.val + d.val) / 4 = k.val; omega)]
  · by_cases h : l.val % 4 = d.val
    · rw [(select_iff (h9 _) _ _).1 h, (select_iff (ref6 x1 n hk _) _ _).2]
      intro h'
      exact hl (Fin.ext (by show l.val = 4 * k.val + d.val; omega))
    · exact (select_iff (h9 _) _ _).2 h

include hk in
theorem ref_dlt2 : dlt2 (F := Ideal) x1 x2 (ix2 n 0) = x2 (ix3 0 n ⟨4 * k.val + 2, by omega⟩) := by
  refine Eq.trans ?_ (ref_sum x1 x2 n hk 2 2#32 rfl)
  pointwise [dlt2, k0_pay10, k0_pay8, k0_pay5, k0_pay7]

include hk in
theorem ref_dlt3 : dlt3 (F := Ideal) x1 x2 (ix2 n 0) = x2 (ix3 0 n ⟨4 * k.val + 3, by omega⟩) := by
  refine Eq.trans ?_ (ref_sum x1 x2 n hk 3 3#32 rfl)
  pointwise [dlt3, k0_pay11, k0_pay8, k0_pay5, k0_pay7]

include hk in
theorem ref_dlt0 : dlt01 (F := Ideal) x1 x2 (ix2 n 0) = x2 (ix3 0 n ⟨4 * k.val + 0, by omega⟩) := by
  refine Eq.trans ?_ (ref_sum x1 x2 n hk 0 0#32 rfl)
  pointwise [dlt01, k0_pay12, k0_pay8, k0_pay5, k0_pay7]

include hk in
theorem ref_dlt1 : dlt01 (F := Ideal) x1 x2 (ix2 n 1) = x2 (ix3 0 n ⟨4 * k.val + 1, by omega⟩) := by
  refine Eq.trans ?_ (ref_sum x1 x2 n hk 1 1#32 rfl)
  pointwise [dlt01, k0_pay12, k0_pay8, k0_pay5, k0_pay7]

end

/-! ## Against the arrays -/

theorem cls_word_pos (k : Fin 81) : IntOp.cmpi CmpIPredicate.sgt (BitVec.ofNat 32 k.val) 0#32 = 1#1 ↔ k ≠ 0 := by
  revert k; decide +kernel

theorem cls_float (k : Fin 81) : (((BitVec.ofNat 32 k.val).toInt : ℝ) : EReal) = ((k.val : ℝ) : EReal) := by
  rw [toInt_ofNat_lt (by omega)]; rfl

section
variable (R : Spec.Rois) (P : Spec.Probs) (D : Spec.Deltas) (W : Spec.Win) (b : Fin 2) (i : Fin 5000)
  (x0 : Vec Ideal S1x1000x4 .f32) (x1 : Vec Ideal S1x1000x81 .f32) (x2 : Vec Ideal S1x1000x324 .f32) (x3 : Vec Ideal S1x1x4 .f32)
  (n : Fin 1000)

/-- The blocks hold region `i` of image `b` at row `n`. -/
structure Holds : Prop where
  rois : ∀ d, x0 (ix3 0 n d) = R (ix3 b i d)
  probs : ∀ k, x1 (ix3 0 n k) = P (ix3 b i k)
  deltas : ∀ (k : Fin 81) (d : Fin 4), x2 (ix3 0 n ⟨4 * k.val + d.val, by omega⟩) = D (ix4 b i k d)
  win : ∀ d, x3 (ix3 0 0 d) = W b d

variable {R P D W b i x0 x1 x2 x3 n} (h : Holds R P D W b i x0 x1 x2 x3 n)

include h in
theorem Holds.first : FirstMax (fun k : Fin 81 => k.val) (fun k => (x1 (ix3 0 n k) : EReal)) (Spec.cls P b i) := by
  have e : (fun k => (x1 (ix3 0 n k) : EReal)) = fun k => P (ix3 b i k) := funext h.probs
  rw [e]; exact star_spec _ _

include h in
theorem ref_y1 : refined (F := Ideal) x0 x1 x2 x3 (ix3 0 n 0) = Spec.y1 R P D W b i := by
  pointwise [refined, k0_pay1, k0_pay17, k0_pay16, k0_pay15, k0_pay14, k0_pay13, k0_pay19, k0_pay20, k0_pay21, k0_pay22]
  rw [ref_dlt0 x1 x2 n h.first, ref_dlt2 x1 x2 n h.first, show x2 (ix3 0 n ⟨4 * (Spec.cls P b i).val + 0, _⟩) = _ from h.deltas (Spec.cls P b i) 0,
    show x2 (ix3 0 n ⟨4 * (Spec.cls P b i).val + 2, _⟩) = _ from h.deltas (Spec.cls P b i) 2]
  simp only [h.rois, h.win]
  rw [min_comm, max_comm]
  rfl

include h in
theorem ref_x1 : refined (F := Ideal) x0 x1 x2 x3 (ix3 0 n 1) = Spec.x1 R P D W b i := by
  pointwise [refined, k0_pay1, k0_pay17, k0_pay16, k0_pay15, k0_pay14, k0_pay13, k0_pay19, k0_pay20, k0_pay21, k0_pay22]
  rw [ref_dlt1 x1 x2 n h.first, ref_dlt3 x1 x2 n h.first, show x2 (ix3 0 n ⟨4 * (Spec.cls P b i).val + 1, _⟩) = _ from h.deltas (Spec.cls P b i) 1,
    show x2 (ix3 0 n ⟨4 * (Spec.cls P b i).val + 3, _⟩) = _ from h.deltas (Spec.cls P b i) 3]
  simp only [h.rois, h.win]
  rw [min_comm, max_comm]
  rfl

include h in
theorem ref_y2 : refined (F := Ideal) x0 x1 x2 x3 (ix3 0 n 2) = Spec.y2 R P D W b i := by
  pointwise [refined, k0_pay1, k0_pay17, k0_pay18, k0_pay16, k0_pay15, k0_pay14, k0_pay13, k0_pay19, k0_pay20, k0_pay21, k0_pay22]
  rw [ref_dlt0 x1 x2 n h.first, ref_dlt2 x1 x2 n h.first, show x2 (ix3 0 n ⟨4 * (Spec.cls P b i).val + 0, _⟩) = _ from h.deltas (Spec.cls P b i) 0,
    show x2 (ix3 0 n ⟨4 * (Spec.cls P b i).val + 2, _⟩) = _ from h.deltas (Spec.cls P b i) 2]
  simp only [h.rois, h.win]
  rw [min_comm, max_comm]
  rfl

include h in
theorem ref_x2 : refined (F := Ideal) x0 x1 x2 x3 (ix3 0 n 3) = Spec.x2 R P D W b i := by
  pointwise [refined, k0_pay1, k0_pay17, k0_pay18, k0_pay16, k0_pay15, k0_pay14, k0_pay13, k0_pay19, k0_pay20, k0_pay21, k0_pay22]
  rw [ref_dlt1 x1 x2 n h.first, ref_dlt3 x1 x2 n h.first, show x2 (ix3 0 n ⟨4 * (Spec.cls P b i).val + 1, _⟩) = _ from h.deltas (Spec.cls P b i) 1,
    show x2 (ix3 0 n ⟨4 * (Spec.cls P b i).val + 3, _⟩) = _ from h.deltas (Spec.cls P b i) 3]
  simp only [h.rois, h.win]
  rw [min_comm, max_comm]
  rfl

include h in
theorem ref_score : (Spec.cand P b i → refined (F := Ideal) x0 x1 x2 x3 (ix3 0 n 4) = Spec.score P b i) ∧
    (¬ Spec.cand P b i → refined (F := Ideal) x0 x1 x2 x3 (ix3 0 n 4) = (-1 : EReal)) := by
  pointwise [refined, k0_pay1]
  rw [ref3 x1 n h.first, ref4 x1 n h.first, ofBits_neg_one, h.probs]
  refine select_iff ?_ _ _
  rw [andi_one_iff, ofBool_decide_iff, cls_word_pos]
  rfl

include h in
theorem ref_cls : refined (F := Ideal) x0 x1 x2 x3 (ix3 0 n 5) = (((Spec.cls P b i).val : ℝ) : EReal) := by
  pointwise [refined, k0_pay1]
  rw [ref4 x1 n h.first]
  exact cls_float _

end

end Cert.Proof.I

end
-- ==== Proof.KTrip.lean ====
/- One trip of the kernel's selection loop, at the extended reals: the scores and the output panel after it, in terms of the
   place that holds the largest score first. -/
module

public import proofs.«01_k».proof.Proof.INms
public import proofs.«01_k».proof.Proof.Spec
public import proofs.«01_k».proof.Proof.Folds

@[expose] public section

set_option maxRecDepth 65536

noncomputable section

namespace Cert.Proof.I

open Cert.KernelIdeal Cert.KernelIdeal.Gen
open Idealize.ShloMosaic

/-- A place of a tiled plane: its row and its lane. -/
abbrev Cell : Type := Fin 8 × Fin 640

/-- Its number, row by row. -/
def posC (x : Cell) : ℕ := x.1.val * 640 + x.2.val

theorem posC_lt (x : Cell) : posC x < 5120 := by unfold posC; omega

theorem posC_inj : Function.Injective posC := by
  rintro ⟨a, b⟩ ⟨a', b'⟩ h
  simp only [posC] at h
  have : a.val = a'.val := by omega
  have : b.val = b'.val := by omega
  exact Prod.ext (Fin.ext ‹_›) (Fin.ext ‹_›)

/-- A plane read at a place. -/
abbrev rd (v : FVec Ideal S8x640 .f32) (x : Cell) : EReal := v (ix2 x.1 x.2)

theorem posC_word (x : Cell) :
    IntOp.addi (IntOp.muli (BitVec.ofNat 32 x.1.val) 640#32) (BitVec.ofNat 32 x.2.val) = BitVec.ofNat 32 (posC x) := by
  unfold posC IntOp.addi IntOp.muli
  rw [BitVec.ofNat_add, BitVec.ofNat_mul]

theorem ofNat_posC_inj (x k : Cell) (h : BitVec.ofNat 32 (posC x) = BitVec.ofNat 32 (posC k)) : x = k := by
  have h' := congrArg BitVec.toNat h
  rw [BitVec.toNat_ofNat, BitVec.toNat_ofNat] at h'
  have := posC_lt x; have := posC_lt k
  exact posC_inj (by omega)

variable {sc : FVec Ideal S8x640 .f32} {k : Cell}

theorem pay7_eq (hk : FirstMax posC (rd sc) k) : k1_pay7 sc (ix2 0 0) = rd sc k := by
  refine Eq.trans ?_ (fold_max_eq hk)
  pointwise [k1_pay7]
  rw [ofBits_neg_inf]

theorem pay8_eq (hk : FirstMax posC (rd sc) k) (x : Cell) : k1_pay8 k1_pay39 sc (ix2 x.1 x.2) = if x = k then 1#1 else 0#1 := by
  pointwise [k1_pay8, k1_pay39]
  rw [pay7_eq hk, posC_word, fold_minsi_eq hk 1073741824#32 2147483647#32 (fun x => by have := posC_lt x; omega)
    (fun x => by have := posC_lt x; have e : (1073741824#32 : BitVec 32).toInt = 1073741824 := by decide
                 rw [e]; omega)
    (fun x => by have := posC_lt x; have e : (2147483647#32 : BitVec 32).toInt = 2147483647 := by decide
                 rw [e]; omega)
    _ (fun x => ⟨fun h => by rw [if_pos h, posC_word], fun h => by rw [if_neg h]⟩)]
  by_cases h : x = k
  · subst h; simp [IntOp.cmpi, IntOp.andi]
  · have : BitVec.ofNat 32 (posC x) ≠ BitVec.ofNat 32 (posC k) := fun e => h (ofNat_posC_inj x k e)
    have e : IntOp.cmpi CmpIPredicate.eq (BitVec.ofNat 32 (posC x)) (BitVec.ofNat 32 (posC k)) = 0#1 := cmpi_eq_ne _ _ this
    rw [e, if_neg h]; simp [IntOp.andi]

theorem masked (hk : FirstMax posC (rd sc) k) (v : FVec Ideal S8x640 .f32) :
    ∑ a, ∑ b, Scalar.select (k1_pay8 k1_pay39 sc (ix2 a b)) (v (ix2 a b)) (0 : EReal) = rd v k := by
  rw [← Fintype.sum_prod_type' (f := fun a b => Scalar.select (k1_pay8 k1_pay39 sc (ix2 a b)) (v (ix2 a b)) (0 : EReal))]
  refine sum_at k _ _ ?_ fun x hx => ?_
  · rw [pay8_eq hk]; simp [Scalar.select]
  · rw [pay8_eq hk, if_neg hx]; simp [Scalar.select]

theorem pay10_eq (hk : FirstMax posC (rd sc) k) (v : FVec Ideal S8x640 .f32) : k1_pay10 k1_pay39 v sc (ix2 0 0) = rd v k := by
  refine Eq.trans ?_ (masked hk v)
  pointwise [k1_pay10]
theorem pay11_eq (hk : FirstMax posC (rd sc) k) (v : FVec Ideal S8x640 .f32) : k1_pay11 k1_pay39 v sc (ix2 0 0) = rd v k := by
  refine Eq.trans ?_ (masked hk v)
  pointwise [k1_pay11]
theorem pay12_eq (hk : FirstMax posC (rd sc) k) (v : FVec Ideal S8x640 .f32) : k1_pay12 k1_pay39 v sc (ix2 0 0) = rd v k := by
  refine Eq.trans ?_ (masked hk v)
  pointwise [k1_pay12]
theorem pay13_eq (hk : FirstMax posC (rd sc) k) (v : FVec Ideal S8x640 .f32) : k1_pay13 k1_pay39 v sc (ix2 0 0) = rd v k := by
  refine Eq.trans ?_ (masked hk v)
  pointwise [k1_pay13]
theorem pay14_eq (hk : FirstMax posC (rd sc) k) (v : FVec Ideal S8x640 .f32) : k1_pay14 v (k1_pay8 k1_pay39 sc) (ix2 0 0) = rd v k := by
  refine Eq.trans ?_ (masked hk v)
  pointwise [k1_pay14]

open Classical in
theorem pay9_eq (hk : FirstMax posC (rd sc) k) : k1_pay9 sc (ix2 0 0) = if 0 ≤ rd sc k then 1#1 else 0#1 := by
  pointwise [k1_pay9]
  rw [pay7_eq hk]
  by_cases h : 0 ≤ rd sc k <;> simp [h]

/-- The four sides of the box at a place. -/
def sides (y1 x1 y2 x2 : FVec Ideal S8x640 .f32) (x : Cell) : Fin 4 → EReal := ![rd y1 x, rd x1 x, rd y2 x, rd x2 x]

variable (y1 x1 y2 x2 cid area : FVec Ideal S8x640 .f32) (i : BitVec 32) (det : FVec Ideal S8x128 .f32)

/-- The scores after a trip: struck out where the box taken strikes, when its score is not negative. -/
theorem tripA_score (hk : FirstMax posC (rd sc) k) (har : ∀ x, rd area x = Spec.area (sides y1 x1 y2 x2 x)) (v5 v6 : IVec S8x128 32) (x : Cell) :
    ((0 ≤ rd sc k ∧ rd cid x = rd cid k ∧ Spec.thr < Spec.iou (sides y1 x1 y2 x2 k) (sides y1 x1 y2 x2 x)) →
      rd (tripA k1_pay39 v5 v6 y1 x1 y2 x2 cid area i sc det).1 x = -1) ∧
    (¬ (0 ≤ rd sc k ∧ rd cid x = rd cid k ∧ Spec.thr < Spec.iou (sides y1 x1 y2 x2 k) (sides y1 x1 y2 x2 x)) →
      rd (tripA k1_pay39 v5 v6 y1 x1 y2 x2 cid area i sc det).1 x = rd sc x) := by
  have e : rd (tripA k1_pay39 v5 v6 y1 x1 y2 x2 cid area i sc det).1 x =
      Scalar.select (IntOp.andi (IntOp.andi (k1_pay9 sc (ix2 0 0))
        (BitVec.ofBool (decide (Spec.thr < Spec.iou (sides y1 x1 y2 x2 k) (sides y1 x1 y2 x2 x)))))
        (BitVec.ofBool (decide (rd cid x = rd cid k)))) (-1) (rd sc x) := by
    show k1_pay15 _ _ _ _ _ _ _ _ _ _ _ _ _ (ix2 x.1 x.2) = _
    pointwise [k1_pay15]
    rw [pay10_eq hk, pay11_eq hk, pay12_eq hk, pay13_eq hk, pay14_eq hk, ofBits_neg_one, show area (ix2 x.1 x.2) = _ from har x, add_comm (Spec.area (sides y1 x1 y2 x2 x))]
    rfl
  rw [e, pay9_eq hk]
  refine select_iff ?_ _ _
  rw [andi_one_iff, andi_one_iff, bit_iff, ofBool_decide_iff, ofBool_decide_iff]
  tauto

/-- The column a trip writes. -/
def column (hi : Cell → Fin 4 → EReal) (cid : Cell → EReal) (m : EReal) (k : Cell) (r : Fin 8) : EReal :=
  match r with
  | 0 => hi k 0
  | 1 => hi k 1
  | 2 => hi k 2
  | 3 => hi k 3
  | 4 => cid k
  | _ => m

open Classical in
theorem pay16_eq (hk : FirstMax posC (rd sc) k) : k1_pay16 (F := Ideal) (k1_pay9 sc) (ix2 0 0) = if 0 ≤ rd sc k then 1 else 0 := by
  pointwise [k1_pay16]
  rw [pay9_eq hk]
  by_cases h : 0 ≤ rd sc k <;> simp [h, Scalar.select, Ideal.ofBits_one_f32]

open Classical in
/-- The output panel after trip `i`: lane `i` holds the box taken, or zeros. -/
theorem tripA_panel (hk : FirstMax posC (rd sc) k) (r : Fin 8) (l : Fin 128) :
    (tripA k1_pay39 (iota .tc S8x128 32 [0] iota_S8x128_d0_w32) (iota .tc S8x128 32 [1] iota_S8x128_d1_w32) y1 x1 y2 x2 cid area i sc det).2 (ix2 r l)
      = if BitVec.ofNat 32 l.val = i then column (sides y1 x1 y2 x2) (rd cid) (rd sc k) k r * (if 0 ≤ rd sc k then 1 else 0) else det (ix2 r l) := by
  show k1_pay21 _ _ _ _ _ _ _ _ _ _ _ _ _ (ix2 r l) = _
  pointwise [k1_pay21, k1_pay17, k1_pay18, k1_pay19, k1_pay20]
  rw [pay10_eq hk, pay11_eq hk, pay12_eq hk, pay13_eq hk, pay14_eq hk, pay16_eq hk, pay7_eq hk]
  by_cases h : BitVec.ofNat 32 l.val = i
  · rw [if_pos h, show IntOp.cmpi CmpIPredicate.eq (BitVec.ofNat 32 l.val) i = 1#1 from cmpi_eq_self _ _ h]
    match r with
    | 0 => rfl
    | 1 => rfl
    | 2 => rfl
    | 3 => rfl
    | 4 => rfl
    | 5 => rfl
    | 6 => rfl
    | 7 => rfl
  · rw [if_neg h, show IntOp.cmpi CmpIPredicate.eq (BitVec.ofNat 32 l.val) i = 0#1 from cmpi_eq_ne _ _ h]
    rfl

theorem tripB_eq {F : FTy → Type} [FloatOps F] (v4 : IVec S8x640 32) (v5 v6 : IVec S8x128 32) (y1 x1 y2 x2 cid v34 : FVec F S8x640 .f32)
    (i : BitVec 32) (sc : FVec F S8x640 .f32) (det : FVec F S8x128 .f32) :
    tripB v4 v5 v6 y1 x1 y2 x2 cid v34 i sc det = tripA v4 v5 v6 y1 x1 y2 x2 cid (k1_pay1 x1 x2 v34) i sc det := rfl

end Cert.Proof.I

end
-- ==== Proof.KLoop.lean ====
/- The kernel's selection loop as a sequence of trips, one sequence for each image, and what the output panel holds after
   the hundred trips. -/
module

public import proofs.«01_k».proof.Proof.KTrip
public import Idealize.ShloMosaic.Lib.WordArith.Masks
public import Idealize.ShloMosaic.Lib.Pipeline.Value

@[expose] public section

set_option maxRecDepth 65536

noncomputable section

namespace Cert.Proof.I

open Cert.KernelIdeal Cert.KernelIdeal.Gen
open Idealize.ShloMosaic

/-- A fold over the numbers below `n` is the `n`-th state of the sequence of its steps. -/
theorem foldl_finRange_eq {S : Type} (h : ℕ → S → S) (st : ℕ → S) (hs : ∀ j, st (j + 1) = h j (st j)) (n : ℕ) :
    (List.finRange n).foldl (fun acc k => h k.val acc) (st 0) = st n := by
  have e : (List.finRange n).foldl (fun acc k => h k.val acc) (st 0) = (List.range n).foldl (fun acc k => h k acc) (st 0) := by
    rw [← List.map_coe_finRange_eq_range, List.foldl_map]
  rw [e]
  induction n with
  | zero => rfl
  | succ n ih =>
    rw [List.range_succ, List.foldl_append, ih (by rw [← List.map_coe_finRange_eq_range, List.foldl_map])]
    exact (hs n).symm

section
variable (y1 x1 y2 x2 cid area s0 : FVec Ideal S8x640 .f32)

abbrev rowI : IVec S8x128 32 := iota .tc S8x128 32 [0] iota_S8x128_d0_w32
abbrev laneI : IVec S8x128 32 := iota .tc S8x128 32 [1] iota_S8x128_d1_w32

/-- The scores and the panel after `n` trips. -/
def seq : ℕ → FVec Ideal S8x640 .f32 × FVec Ideal S8x128 .f32
  | 0 => (s0, k1_pay2 (F := Ideal))
  | n + 1 => tripA k1_pay39 rowI laneI y1 x1 y2 x2 cid area (BitVec.ofNat 32 n) (seq n).1 (seq n).2

/-- The scores after `n` trips, by place. -/
def scores (n : ℕ) : Cell → EReal := rd (seq y1 x1 y2 x2 cid area s0 n).1

/-- The place of the largest score after `n` trips, the first one of several. -/
def taken (n : ℕ) : Cell := star posC (scores y1 x1 y2 x2 cid area s0 n)

theorem taken_spec (n : ℕ) : FirstMax posC (scores y1 x1 y2 x2 cid area s0 n) (taken y1 x1 y2 x2 cid area s0 n) := star_spec _ _

/-- A box taken strikes out a box of the same class that it overlaps. -/
def strikes (k x : Cell) : Prop := rd cid x = rd cid k ∧ Spec.thr < Spec.iou (sides y1 x1 y2 x2 k) (sides y1 x1 y2 x2 x)

theorem scores_step (har : ∀ x, rd area x = Spec.area (sides y1 x1 y2 x2 x)) (n : ℕ) (x : Cell) :
    (0 ≤ scores y1 x1 y2 x2 cid area s0 n (taken y1 x1 y2 x2 cid area s0 n) ∧ strikes y1 x1 y2 x2 cid (taken y1 x1 y2 x2 cid area s0 n) x →
      scores y1 x1 y2 x2 cid area s0 (n + 1) x = -1) ∧
    (¬ (0 ≤ scores y1 x1 y2 x2 cid area s0 n (taken y1 x1 y2 x2 cid area s0 n) ∧ strikes y1 x1 y2 x2 cid (taken y1 x1 y2 x2 cid area s0 n) x) →
      scores y1 x1 y2 x2 cid area s0 (n + 1) x = scores y1 x1 y2 x2 cid area s0 n x) :=
  tripA_score y1 x1 y2 x2 cid area (BitVec.ofNat 32 n) _ (taken_spec y1 x1 y2 x2 cid area s0 n) har rowI laneI x

open Classical in
/-- After `n` trips lane `l < n` of the panel holds what trip `l` took. -/
theorem panel (n : ℕ) (hn : n ≤ 100) (r : Fin 8) (l : Fin 128) (hl : l.val < n) :
    (seq y1 x1 y2 x2 cid area s0 n).2 (ix2 r l) =
      column (sides y1 x1 y2 x2) (rd cid) (scores y1 x1 y2 x2 cid area s0 l.val (taken y1 x1 y2 x2 cid area s0 l.val))
        (taken y1 x1 y2 x2 cid area s0 l.val) r
        * (if 0 ≤ scores y1 x1 y2 x2 cid area s0 l.val (taken y1 x1 y2 x2 cid area s0 l.val) then 1 else 0) := by
  induction n with
  | zero => omega
  | succ n ih =>
    have h := tripA_panel y1 x1 y2 x2 cid area (BitVec.ofNat 32 n) (seq y1 x1 y2 x2 cid area s0 n).2 (taken_spec y1 x1 y2 x2 cid area s0 n) r l
    refine h.trans ?_
    by_cases e : l.val = n
    · subst e; rw [if_pos rfl]; rfl
    · rw [if_neg, ih (by omega) (by omega)]
      intro e'
      have := congrArg BitVec.toNat e'
      rw [BitVec.toNat_ofNat, BitVec.toNat_ofNat] at this
      omega

end

/-- The first image's sequence over the tiled input. -/
abbrev seqA (x : Vec Ideal S128x640 .f32) : ℕ → FVec Ideal S8x640 .f32 × FVec Ideal S8x128 .f32 :=
  seq (pan0 x) (pan1 x) (pan2 x) (pan3 x) (pan5 x) (k1_pay46 (pan0 x) (pan1 x) (pan2 x) (pan3 x)) (pan4 x)

/-- The second image's. -/
abbrev seqB (x : Vec Ideal S128x640 .f32) : ℕ → FVec Ideal S8x640 .f32 × FVec Ideal S8x128 .f32 :=
  seq (pan6 x) (pan7 x) (pan8 x) (pan9 x) (pan11 x) (k1_pay1 (pan7 x) (pan9 x) (k1_pay53 (pan6 x) (pan8 x))) (pan10 x)

theorem iv_word (k : ℕ) (hk : k < 2 ^ 32) : Scf.iv 0#32 1#32 k = BitVec.ofNat 32 k := by
  apply BitVec.eq_of_toNat_eq
  rw [WordArith.toNat_iv_zero_one k hk, BitVec.toNat_ofNat, Nat.mod_eq_of_lt hk]

/-- One trip over both images, its number a natural. -/
def tripN (x : Vec Ideal S128x640 .f32) (n : ℕ) (s : LoopSt Ideal) : LoopSt Ideal :=
  let a := tripA k1_pay39 rowI laneI (pan0 x) (pan1 x) (pan2 x) (pan3 x) (pan5 x) (k1_pay46 (pan0 x) (pan1 x) (pan2 x) (pan3 x))
    (BitVec.ofNat 32 n) s.1 s.2.1
  let b := tripA k1_pay39 rowI laneI (pan6 x) (pan7 x) (pan8 x) (pan9 x) (pan11 x) (k1_pay1 (pan7 x) (pan9 x) (k1_pay53 (pan6 x) (pan8 x)))
    (BitVec.ofNat 32 n) s.2.2.1 s.2.2.2
  (a.1, a.2, b.1, b.2)

theorem trip_eq (x : Vec Ideal S128x640 .f32) (k : Fin k1_t1_loop.trips) (s : LoopSt Ideal) : trip x k s = tripN x k.val s := by
  have hk : k.val < 2 ^ 32 := lt_of_lt_of_le k.isLt (by decide)
  simp only [trip, tripN, tripB_eq, iv_word k.val hk, k1_pay40, k1_pay41, k1_pay42, k1_pay43, k1_pay45, k1_pay47, k1_pay48, k1_pay49, k1_pay50,
    k1_pay52, shapeCast_self]

/-- The two images' states after `n` trips, side by side. -/
def both (x : Vec Ideal S128x640 .f32) (n : ℕ) : LoopSt Ideal := ((seqA x n).1, (seqA x n).2, (seqB x n).1, (seqB x n).2)

theorem stN_eq (x : Vec Ideal S128x640 .f32) : stN (F := Ideal) x = both x 100 := by
  have h0 : st0 (F := Ideal) x = both x 0 := by
    simp only [st0, both, seq, k1_pay44, k1_pay51, shapeCast_self]
    rfl
  have hg : (trip (F := Ideal) x) = fun k s => tripN x k.val s := by funext k s; exact trip_eq x k s
  unfold stN
  rw [Scf.fold_eq, h0, hg]
  exact foldl_finRange_eq (tripN x) (both x) (fun _ => rfl) k1_t1_loop.trips

end Cert.Proof.I

end
-- ==== Proof.KArr.lean ====
/- The kernel's arrays, at the extended reals: what the first region leaves for each region of interest. -/
module

public import proofs.«01_k».proof.Proof.IRun
public import proofs.«01_k».proof.Proof.KRef
public import proofs.«01_k».proof.Proof.KLoop
public import Idealize.ShloMosaic.Lib.Pipeline.ValueKit
public import Idealize.ShloMosaic.Lib.StableHlo.ReadAt

@[expose] public section

set_option maxRecDepth 65536

noncomputable section

namespace Cert.Proof.I

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ) (c : Dev nD)

abbrev aR : Spec.Rois := m ((c : Thread nD τ).loc main_arg0)
abbrev aP : Spec.Probs := m ((c : Thread nD τ).loc main_arg1)
abbrev aD : Spec.Deltas := m ((c : Thread nD τ).loc main_arg2)
def aW : Spec.Win := fun b d => V1 m c main_v22 (ix3 b 0 d)

/-- What the first region leaves of region `i` of image `b` in channel `ch`. -/
structure RefVal (b : Fin 2) (i : Fin 5000) (ch : Fin 8) (v : EReal) : Prop where
  y1 : ch = 0 → v = Spec.y1 (aR m c) (aP m c) (aD m c) (aW m c) b i
  x1 : ch = 1 → v = Spec.x1 (aR m c) (aP m c) (aD m c) (aW m c) b i
  y2 : ch = 2 → v = Spec.y2 (aR m c) (aP m c) (aD m c) (aW m c) b i
  x2 : ch = 3 → v = Spec.x2 (aR m c) (aP m c) (aD m c) (aW m c) b i
  score : ch = 4 → (Spec.cand (aP m c) b i → v = Spec.score (aP m c) b i) ∧ (¬ Spec.cand (aP m c) b i → v = -1)
  cls : ch = 5 → v = (((Spec.cls (aP m c) b i).val : ℝ) : EReal)

theorem Holds.refVal {b : Fin 2} {i : Fin 5000} {x0 : Vec Ideal S1x1000x4 .f32} {x1 : Vec Ideal S1x1000x81 .f32}
    {x2 : Vec Ideal S1x1000x324 .f32} {x3 : Vec Ideal S1x1x4 .f32} {n : Fin 1000}
    (h : Holds (aR m c) (aP m c) (aD m c) (aW m c) b i x0 x1 x2 x3 n) (ch : Fin 8) :
    RefVal m c b i ch (refined (F := Ideal) x0 x1 x2 x3 (ix3 0 n ch)) where
  y1 e := by subst e; exact ref_y1 h
  x1 e := by subst e; exact ref_x1 h
  y2 e := by subst e; exact ref_y2 h
  x2 e := by subst e; exact ref_x2 h
  score e := by subst e; exact ref_score h
  cls e := by subst e; exact ref_cls h

theorem idx0 : ∀ t : Fin cfg0.N, win0_0.index t = ![t.val / 5, t.val % 5, 0] := by decide +kernel
theorem idx1 : ∀ t : Fin cfg0.N, win0_1.index t = ![t.val / 5, t.val % 5, 0] := by decide +kernel
theorem idx2 : ∀ t : Fin cfg0.N, win0_2.index t = ![t.val / 5, t.val % 5, 0] := by decide +kernel
theorem idx3 : ∀ t : Fin cfg0.N, win0_3.index t = ![t.val / 5, 0, 0] := by decide +kernel
theorem idx4 : ∀ t : Fin cfg0.N, win0_4.index t = ![t.val / 5, t.val % 5, 0] := by decide +kernel

theorem arg_V1 : (V1 m c main_arg0 = aR m c) ∧ (V1 m c main_arg1 = aP m c) := by
  constructor
  · rw [V1_of m c main_arg0 (by decide)]
  · rw [V1_of m c main_arg1 (by decide)]

/-- The deltas' four components stand beside one another, class by class. -/
theorem v23_at (b : Fin 2) (i : Fin 5000) (k : Fin 81) (d : Fin 4) :
    V1 m c main_v23 (ix3 b i ⟨4 * k.val + d.val, by omega⟩) = aD m c (ix4 b i k d) := by
  unfold V1
  after_reads_at

theorem holds_block (t : Fin cfg0.N) (n : Fin 1000) (b : Fin 2) (i : Fin 5000) (hb : b.val = t.val / 5)
    (hi : i.val = t.val % 5 * 1000 + n.val) :
    Holds (aR m c) (aP m c) (aD m c) (aW m c) b i (rblk (A0 m) c 0 t) (rblk (A0 m) c 1 t) (rblk (A0 m) c 2 t) (rblk (A0 m) c 3 t) n where
  rois d := by
    blk_simp [rblk, A0]
    rw [(arg_V1 m c).1]
    blk_ext [idx0 t]
  probs k := by
    blk_simp [rblk, A0]
    rw [(arg_V1 m c).2]
    blk_ext [idx1 t]
  deltas k d := by
    rw [← v23_at]
    blk_simp [rblk, A0]
    blk_ext [idx2 t]
  win d := by
    unfold aW
    blk_simp [rblk, A0]
    blk_ext [idx3 t]

theorem res0_all (j : S2x5000x8.Idx) : RefVal m c (j 0) (j 1) (j 2) (res0 m c j) := by
  unfold res0
  refine (dat0 (A0 m) c).arrAt_forall_of_covers 4 (fun j v => RefVal m c (j 0) (j 1) (j 2) v) (by decide +kernel) (fun t hf y => ?_) j
  blk_simp
  rw [dat0_after4, blk4, View.canon_unit_zero (by decide)]
  have hy : (y : S1x1000x8.Idx) = ix3 0 (y 1) (y 2) := by
    funext a; fin_cases a
    · exact Subsingleton.elim (α := Fin 1) _ _
    · rfl
    · rfl
  have h2 : (win0_4.blk t).view.emb y 2 = (y 2 : Fin 8) := by apply Fin.ext; blk_simp [idx4 t]
  have h := (holds_block m c t (y 1) ((win0_4.blk t).view.emb y 0) ((win0_4.blk t).view.emb y 1) ?_ ?_).refVal m c (y 2)
  · rw [h2]
    refine Eq.mp (congrArg (RefVal m c _ _ _) (congrArg (refined (F := Ideal) _ _ _ _) hy.symm)) h
  · blk_simp [idx4 t]
  · blk_simp [idx4 t]

/-- What the first region leaves of region `i` of image `b` in channel `ch`. -/
theorem res0_at (b : Fin 2) (i : Fin 5000) (ch : Fin 8) : RefVal m c b i ch (res0 m c (ix3 b i ch)) :=
  res0_all m c (ix3 b i ch)

/-! ## The second region's operand -/

theorem V2_v24 : V2 m (outsA m) c main_v24 = res0 m c := by
  unfold V2
  rw [Function.update_self]
  exact outsA_v24 m c

theorem padded (Z : (⟨3, ![2, 5000, 8]⟩ : Shape).Idx → EReal) (b : Fin 2) (ch : Fin 8) (x : Cell) :
    (if h : (b.val * 64 + ch.val * 8 + x.1.val) % 8 * 640 + x.2.val < 5000 then Z (ix3 b ⟨_, h⟩ ch)
      else Ideal.ofBits .f32 0xBF800000#32) = if h : posC x < 5000 then Z (ix3 b ⟨posC x, h⟩ ch) else -1 := by
  have e2 : (b.val * 64 + ch.val * 8 + x.1.val) % 8 * 640 + x.2.val = posC x := by unfold posC; omega
  rw [ofBits_neg_one]
  simp only [e2]

/-- Image `b`'s channel `ch` in the second region's operand: the regions row by row, padded with −1. -/
theorem v27_at (b : Fin 2) (ch : Fin 8) (x : Cell) :
    V5 m (outsA m) c main_v27 (ix2 ⟨b.val * 64 + ch.val * 8 + x.1.val, by omega⟩ x.2) =
      if h : posC x < 5000 then (show EReal from res0 m c (ix3 b ⟨posC x, h⟩ ch)) else -1 := by
  have e1 : (b.val * 64 + ch.val * 8 + x.1.val) / 64 = b.val := by omega
  have e3 : (b.val * 64 + ch.val * 8 + x.1.val) / 8 % 8 = ch.val := by omega
  refine Eq.trans ?_ (padded (res0 m c) b ch x)
  unfold V5 V4 V3
  after_reads_at
  rw [V2_v24]
  rfl

/-! ## What the second region leaves -/

theorem idxN : ∀ t : Fin cfg1.N, win1_0.index t = ![0, 0] := by decide +kernel

def t0 : Fin cfg1.N := ⟨0, by decide⟩

theorem whole0 : (cfg1.win 1).WholeAt t0 := by decide +kernel

theorem res1_eq : res1 m c = blkN (V5 m (outsA m) c main_v27) := by
  unfold res1
  refine (dat1 (A1 m) c).arrAt_eq_of_after_last 1 t0 whole0 _ fun j => ?_
  blk_simp
  rw [dat1_after1]
  have e : nblk (A1 m) c t0 = V5 m (outsA m) c main_v27 := by
    funext y
    blk_simp [nblk, A1]
    blk_ext [idxN t0]
  rw [e]

/-- The kernel's result at slot `t` of image `b` is the second region's output. -/
theorem v30_at (b : Fin 2) (t : Fin 100) (ch : Fin 6) :
    V7 m (outsB m) c main_v30 (ix3 b t ch) = res1 m c (ix3 b ⟨ch.val, by omega⟩ ⟨t.val, by omega⟩) := by
  have e : V6 m (outsB m) c main_v28 = res1 m c := by
    unfold V6
    rw [Function.update_self]
    exact outsB_v28 m c
  rw [← e]
  unfold V7
  after_reads_at

theorem blkN_at (x : Vec Ideal S128x640 .f32) (r : Fin 8) (l : Fin 128) :
    blkN (F := Ideal) x (ix3 0 r l) = (seqA x 100).2 (ix2 r l) ∧ blkN (F := Ideal) x (ix3 1 r l) = (seqB x 100).2 (ix2 r l) := by
  have h := stN_eq x
  have h1 : k1_pay5 (F := Ideal) (stN x).2.1 (ix3 0 r l) = (seqA x 100).2 (ix2 r l) := by
    rw [h]; pointwise [k1_pay5]; rfl
  have h2 : k1_pay6 (F := Ideal) (stN x).2.2.2 (ix3 0 r l) = (seqB x 100).2 (ix2 r l) := by
    rw [h]; pointwise [k1_pay6]; rfl
  constructor
  · rw [← h1]
    unfold blkN
    canon_tiles z hz using rN_covers ..
    · exfalso; change (0 : ℕ) = 1 + _ at hz0; omega
    · refine congrArg _ ?_
      funext a; fin_cases a
      · exact Subsingleton.elim (α := Fin 1) _ _
      · exact Fin.ext hz1.symm
      · exact Fin.ext hz2.symm
  · rw [← h2]
    unfold blkN
    canon_tiles z hz using rN_covers ..
    · refine congrArg _ ?_
      funext a; fin_cases a
      · exact Subsingleton.elim (α := Fin 1) _ _
      · exact Fin.ext hz1.symm
      · exact Fin.ext hz2.symm
    · exfalso; change (1 : ℕ) = _ at hz0; omega

end Cert.Proof.I

end
-- ==== Proof.KVal.lean ====
/- The kernel's selection, image by image, over the regions' boxes, scores and classes, and the result it leaves. -/
module

public import proofs.«01_k».proof.Proof.KArr
public import Idealize.ShloMosaic.Lib.Pipeline.Value

@[expose] public section

set_option maxRecDepth 65536

noncomputable section

namespace Cert.Proof.I

open Cert.KernelIdeal Cert.KernelIdeal.Gen
open Idealize.ShloMosaic Idealize.ShloMosaic.TcCoe

/-- Image `b`'s channel `ch` of the tiled input. -/
def pn (x : FVec Ideal S128x640 .f32) (b : Fin 2) (ch : Fin 8) : FVec Ideal S8x640 .f32 :=
  fun j => x (ix2 ⟨b.val * 64 + ch.val * 8 + (j 0).val, by have : (j 0).val < 8 := (j 0).isLt; omega⟩ (j 1))

/-- The boxes' areas, channel by channel. -/
def areaV (y1 x1 y2 x2 : FVec Ideal S8x640 .f32) : FVec Ideal S8x640 .f32 := fun j => (y2 j - y1 j) * (x2 j - x1 j)

theorem pan_eq (x : FVec Ideal S128x640 .f32) (b : Fin 2) (ch : Fin 8) (r : ℕ) (hr : r = b.val * 64 + ch.val * 8)
    (h : ∀ i : Fin 2, (![r, 0] : Fin 2 → Nat) i + S8x640.size i ≤ S128x640.size i) : pan (F := Ideal) x r h = pn x b ch := by
  subst hr
  funext j
  unfold pan pn
  rw [View.ld_unit_apply_of]
  intro a; fin_cases a
  · rfl
  · show (j 1).val = 0 + (j 1).val; omega

theorem areaA (y1 x1 y2 x2 : FVec Ideal S8x640 .f32) : k1_pay46 (F := Ideal) y1 x1 y2 x2 = areaV y1 x1 y2 x2 := by
  funext j
  pointwise [k1_pay46, k1_pay40, k1_pay41, k1_pay42, k1_pay43, areaV]

theorem areaB (y1 x1 y2 x2 : FVec Ideal S8x640 .f32) : k1_pay1 (F := Ideal) x1 x2 (k1_pay53 (F := Ideal) y1 y2) = areaV y1 x1 y2 x2 := by
  funext j
  pointwise [k1_pay1, k1_pay53, areaV]
  simp only [k1_pay47, k1_pay49, shapeCast_self]

/-- Image `b`'s sequence of trips. -/
abbrev seqI (x : FVec Ideal S128x640 .f32) (b : Fin 2) : ℕ → FVec Ideal S8x640 .f32 × FVec Ideal S8x128 .f32 :=
  seq (pn x b 0) (pn x b 1) (pn x b 2) (pn x b 3) (pn x b 5) (areaV (pn x b 0) (pn x b 1) (pn x b 2) (pn x b 3)) (pn x b 4)

theorem seqA_eq (x : FVec Ideal S128x640 .f32) : seqA x = seqI x 0 := by
  unfold seqA seqI
  rw [areaA]
  have e0 : pan0 (F := Ideal) x = pn x 0 0 := pan_eq x 0 0 0 rfl _
  have e1 : pan1 (F := Ideal) x = pn x 0 1 := pan_eq x 0 1 8 rfl _
  have e2 : pan2 (F := Ideal) x = pn x 0 2 := pan_eq x 0 2 16 rfl _
  have e3 : pan3 (F := Ideal) x = pn x 0 3 := pan_eq x 0 3 24 rfl _
  have e4 : pan4 (F := Ideal) x = pn x 0 4 := pan_eq x 0 4 32 rfl _
  have e5 : pan5 (F := Ideal) x = pn x 0 5 := pan_eq x 0 5 40 rfl _
  rw [e0, e1, e2, e3, e4, e5]

theorem seqB_eq (x : FVec Ideal S128x640 .f32) : seqB x = seqI x 1 := by
  unfold seqB seqI
  rw [areaB]
  have e6 : pan6 (F := Ideal) x = pn x 1 0 := pan_eq x 1 0 64 rfl _
  have e7 : pan7 (F := Ideal) x = pn x 1 1 := pan_eq x 1 1 72 rfl _
  have e8 : pan8 (F := Ideal) x = pn x 1 2 := pan_eq x 1 2 80 rfl _
  have e9 : pan9 (F := Ideal) x = pn x 1 3 := pan_eq x 1 3 88 rfl _
  have e10 : pan10 (F := Ideal) x = pn x 1 4 := pan_eq x 1 4 96 rfl _
  have e11 : pan11 (F := Ideal) x = pn x 1 5 := pan_eq x 1 5 104 rfl _
  rw [e6, e7, e8, e9, e10, e11]

theorem blkN_img (x : FVec Ideal S128x640 .f32) (b : Fin 2) (r : Fin 8) (l : Fin 128) :
    blkN (F := Ideal) x (ix3 b r l) = (seqI x b 100).2 (ix2 r l) := by
  match b with
  | 0 => rw [← seqA_eq]; exact (blkN_at x r l).1
  | 1 => rw [← seqB_eq]; exact (blkN_at x r l).2

variable (m : (ℓ : Loc nD τ sig) → Buf (Elt Ideal) ℓ) (c : Dev nD)

/-- The tiled input. -/
def tin : FVec Ideal S128x640 .f32 := V5 m (outsA m) c main_v27

abbrev kch (b : Fin 2) (ch : Fin 8) : FVec Ideal S8x640 .f32 := pn (tin m c) b ch
/-- Image `b`'s scores after `t` trips. -/
def kS (b : Fin 2) (t : ℕ) : Cell → EReal :=
  scores (kch m c b 0) (kch m c b 1) (kch m c b 2) (kch m c b 3) (kch m c b 5) (areaV (kch m c b 0) (kch m c b 1) (kch m c b 2) (kch m c b 3)) (kch m c b 4) t
/-- The place of the largest of them. -/
def kT (b : Fin 2) (t : ℕ) : Cell :=
  taken (kch m c b 0) (kch m c b 1) (kch m c b 2) (kch m c b 3) (kch m c b 5) (areaV (kch m c b 0) (kch m c b 1) (kch m c b 2) (kch m c b 3)) (kch m c b 4) t
/-- A box at the one place strikes out the box at the other. -/
def kRel (b : Fin 2) : Cell → Cell → Prop := strikes (kch m c b 0) (kch m c b 1) (kch m c b 2) (kch m c b 3) (kch m c b 5)
/-- The box at a place. -/
def kBox (b : Fin 2) : Cell → Fin 4 → EReal := sides (kch m c b 0) (kch m c b 1) (kch m c b 2) (kch m c b 3)

/-- Region `i`'s place in the tiles. -/
def eC (i : Fin 5000) : Cell := (⟨i.val / 640, by omega⟩, ⟨i.val % 640, by omega⟩)

theorem posC_eC (i : Fin 5000) : posC (eC i) = i.val := by unfold posC eC; dsimp only; omega

theorem kch_pad (b : Fin 2) (ch : Fin 8) (x : Cell) (h : 5000 ≤ posC x) : rd (kch m c b ch) x = -1 :=
  (v27_at m c b ch x).trans (dif_neg (by omega))

theorem kch_eC (b : Fin 2) (ch : Fin 8) (i : Fin 5000) : RefVal m c b i ch (rd (kch m c b ch) (eC i)) := by
  have h : posC (eC i) < 5000 := by rw [posC_eC]; exact i.isLt
  have e : rd (kch m c b ch) (eC i) = res0 m c (ix3 b i ch) := by
    refine (v27_at m c b ch (eC i)).trans ((dif_pos h).trans ?_)
    rw [show (⟨posC (eC i), h⟩ : Fin 5000) = i from Fin.ext (posC_eC i)]
  rw [e]
  exact res0_at m c b i ch

theorem kT_spec (b : Fin 2) (t : ℕ) : FirstMax posC (kS m c b t) (kT m c b t) := taken_spec ..

theorem kS_init (b : Fin 2) (i : Fin 5000) : (Spec.cand (aP m c) b i → kS m c b 0 (eC i) = Spec.score (aP m c) b i) ∧
    (¬ Spec.cand (aP m c) b i → kS m c b 0 (eC i) = -1) := (kch_eC m c b 4 i).score rfl

theorem kS_pad (b : Fin 2) (x : Cell) (h : 5000 ≤ posC x) : kS m c b 0 x = -1 := kch_pad m c b 4 x h

theorem kS_step (b : Fin 2) (t : ℕ) (x : Cell) :
    (0 ≤ kS m c b t (kT m c b t) ∧ kRel m c b (kT m c b t) x → kS m c b (t + 1) x = -1) ∧
    (¬ (0 ≤ kS m c b t (kT m c b t) ∧ kRel m c b (kT m c b t) x) → kS m c b (t + 1) x = kS m c b t x) :=
  scores_step _ _ _ _ _ _ _ (fun _ => rfl) t x

theorem kBox_eC (b : Fin 2) (i : Fin 5000) : kBox m c b (eC i) = Spec.box (aR m c) (aP m c) (aD m c) (aW m c) b i := by
  unfold kBox sides Spec.box
  rw [(kch_eC m c b 0 i).y1 rfl, (kch_eC m c b 1 i).x1 rfl, (kch_eC m c b 2 i).y2 rfl, (kch_eC m c b 3 i).x2 rfl]

theorem kRel_eC (b : Fin 2) (i k : Fin 5000) :
    kRel m c b (eC i) (eC k) ↔ Spec.cls (aP m c) b i = Spec.cls (aP m c) b k ∧ Spec.ov (aR m c) (aP m c) (aD m c) (aW m c) b i k := by
  show (rd (kch m c b 5) (eC k) = rd (kch m c b 5) (eC i) ∧ Spec.thr < Spec.iou (kBox m c b (eC i)) (kBox m c b (eC k))) ↔ _
  rw [kBox_eC, kBox_eC, (kch_eC m c b 5 i).cls rfl, (kch_eC m c b 5 k).cls rfl]
  refine and_congr ?_ Iff.rfl
  rw [EReal.coe_eq_coe_iff, Nat.cast_inj]
  exact ⟨fun h => Fin.ext h.symm, fun h => congrArg Fin.val h.symm⟩

theorem column_vals (hi : Cell → Fin 4 → EReal) (cid : Cell → EReal) (mx : EReal) (k : Cell) (ch : Fin 6) :
    column hi cid mx k ⟨ch.val, by omega⟩ = (![hi k 0, hi k 1, hi k 2, hi k 3, cid k, mx] : Fin 6 → EReal) ch := by
  match ch with
  | 0 => rfl
  | 1 => rfl
  | 2 => rfl
  | 3 => rfl
  | 4 => rfl
  | 5 => rfl

open Classical in
theorem out_panel (b : Fin 2) (t : Fin 100) (ch : Fin 6) :
    (show EReal from V7 m (outsB m) c main_v30 (ix3 b t ch)) =
      column (kBox m c b) (rd (kch m c b 5)) (kS m c b t.val (kT m c b t.val)) (kT m c b t.val) ⟨ch.val, by omega⟩
        * (if 0 ≤ kS m c b t.val (kT m c b t.val) then 1 else 0) := by
  refine (v30_at m c b t ch).trans ?_
  rw [res1_eq]
  refine (blkN_img (tin m c) b _ _).trans ?_
  exact panel _ _ _ _ _ _ _ 100 le_rfl _ _ t.isLt

/-- A slot of the result in the case that its trip took nothing. -/
theorem out_none (b : Fin 2) (t : Fin 100) (ch : Fin 6) (h : ¬ 0 ≤ kS m c b t.val (kT m c b t.val)) :
    (show EReal from V7 m (outsB m) c main_v30 (ix3 b t ch)) = 0 := by
  refine (out_panel m c b t ch).trans ?_
  rw [if_neg h, mul_zero]

/-- A slot of the result in the case that its trip took region `i`. -/
theorem out_some (b : Fin 2) (t : Fin 100) (ch : Fin 6) (i : Fin 5000) (h : 0 ≤ kS m c b t.val (kT m c b t.val))
    (hi : kT m c b t.val = eC i) (hs : kS m c b t.val (kT m c b t.val) = Spec.score (aP m c) b i) :
    (show EReal from V7 m (outsB m) c main_v30 (ix3 b t ch)) =
      (![Spec.y1 (aR m c) (aP m c) (aD m c) (aW m c) b i, Spec.x1 (aR m c) (aP m c) (aD m c) (aW m c) b i,
        Spec.y2 (aR m c) (aP m c) (aD m c) (aW m c) b i, Spec.x2 (aR m c) (aP m c) (aD m c) (aW m c) b i,
        (((Spec.cls (aP m c) b i).val : ℝ) : EReal), Spec.score (aP m c) b i] : Fin 6 → EReal) ch := by
  refine (out_panel m c b t ch).trans ?_
  rw [if_pos h, mul_one]
  rw [hs, hi, column_vals, kBox_eC m c b i, (kch_eC m c b 5 i).cls rfl]
  rfl

end Cert.Proof.I

end
-- ==== Proof.TopSort.lean ====
/- What a stable sort by a key, largest first, lists: its positions in the order "higher key, and at equal keys the earlier
   position", so the top-`k` operation reads its operand there. -/
module

public import proofs.«01_k».proof.Proof.Trips
public import Idealize.ShloMosaic.Lib.SortFacts

@[expose] public section

namespace Cert.Proof

open Idealize.ShloMosaic

section Stable

variable {n : ℕ} (f : Fin n → EReal)

open Classical in
/-- Inserting a position that precedes a list sorted in the order keeps it sorted. -/
theorem ranks_insert (B : Fin n → Fin n → Bool) (hB : ∀ i j, B i j = true ↔ f j < f i) (a : Fin n) (l : List (Fin n))
    (hl : l.Pairwise (ranks f)) (ha : ∀ b ∈ l, a < b) : (insertBefore B a l).Pairwise (ranks f) := by
  induction l with
  | nil => exact List.pairwise_singleton _ _
  | cons b l ih =>
    rw [List.pairwise_cons] at hl
    unfold insertBefore
    split
    · rename_i h
      refine List.pairwise_cons.mpr ⟨fun c hc => ?_, ih hl.2 fun b' hb' => ha b' (List.mem_cons_of_mem _ hb')⟩
      rcases List.mem_cons.mp ((perm_insertBefore B a l).mem_iff.mp hc) with rfl | hc'
      · exact .inl ((hB _ _).mp h)
      · exact hl.1 c hc'
    · rename_i h
      have hab : f b ≤ f a := not_lt.mp fun h' => h ((hB _ _).mpr h')
      refine List.pairwise_cons.mpr ⟨fun c hc => ?_, List.pairwise_cons.mpr hl⟩
      have hca : f c ≤ f a := by
        rcases List.mem_cons.mp hc with rfl | hc'
        · exact hab
        · rcases hl.1 c hc' with h' | ⟨h', -⟩
          · exact le_trans (le_of_lt h') hab
          · exact h' ▸ hab
      rcases lt_or_eq_of_le hca with h' | h'
      · exact .inl h'
      · exact .inr ⟨h'.symm, ha c hc⟩

/-- A stable sort of an ascending list of positions. -/
theorem ranks_stableSort (B : Fin n → Fin n → Bool) (hB : ∀ i j, B i j = true ↔ f j < f i) (l : List (Fin n))
    (hl : l.Pairwise (· < ·)) : (stableSort B l).Pairwise (ranks f) := by
  induction l with
  | nil => exact List.Pairwise.nil
  | cons a l ih =>
    rw [List.pairwise_cons] at hl
    unfold stableSort
    exact ranks_insert f B hB a _ (ih hl.2) fun b hb => hl.1 b ((perm_stableSort B l).mem_iff.mp hb)

/-- The sorting permutation is increasing in the order. -/
theorem ranks_sortedFrom (B : Fin n → Fin n → Bool) (hB : ∀ i j, B i j = true ↔ f j < f i) (a b : Fin n) (hab : a < b) :
    ranks f (sortedFrom B a) (sortedFrom B b) := by
  have hp : ∀ a b : Fin (sortPositions n B).length, a < b →
      ranks f ((sortPositions n B).get a) ((sortPositions n B).get b) :=
    List.pairwise_iff_get.mp (ranks_stableSort f B hB (List.finRange n) (List.pairwise_lt_finRange n))
  unfold sortedFrom
  exact hp _ _ (by simp only [Fin.lt_def, Fin.val_cast]; exact hab)

end Stable

end Cert.Proof
-- ==== Proof.Listed.lean ====
/- One selection loop over all classes against one loop per class followed by a stable sort: the sorted list begins with what
   the one loop takes. Nothing here is about a program. -/
module

public import proofs.«01_k».proof.Proof.TopSort

@[expose] public section

namespace Cert.Proof

open Idealize.ShloMosaic

variable {X : Type} {n C : ℕ} {pos : X → ℕ} {e : Fin n → X} {sc : ℕ → X → EReal} {at' : ℕ → X} {rel : X → X → Prop}
  {cand : Fin n → Prop} {s : Fin n → EReal} {cls : Fin n → Fin (C + 1)} {ov : Fin n → Fin n → Prop}
  {rsc : Fin C → ℕ → Fin n → EReal} {rat : Fin C → ℕ → Fin n}

/-- The sorted list against the loop, step by step: while the loop's value is not negative the list's entry is what the loop
    takes, with its score; afterwards the list's key is `-1`. -/
theorem listed_loop (hn : 100 ≤ n)
    -- the one loop
    (he : ∀ i, pos (e i) = i) (hpos : Function.Injective pos) (hat : ∀ t, FirstMax pos (sc t) (at' t))
    (h0 : ∀ i, (cand i → sc 0 (e i) = s i) ∧ (¬ cand i → sc 0 (e i) = -1)) (hpad : ∀ x, n ≤ pos x → sc 0 x = -1)
    (hstep : ∀ t x, (0 ≤ sc t (at' t) ∧ rel (at' t) x → sc (t + 1) x = -1) ∧
      (¬ (0 ≤ sc t (at' t) ∧ rel (at' t) x) → sc (t + 1) x = sc t x))
    (hrel : ∀ i k, rel (e i) (e k) ↔ cls i = cls k ∧ ov i k)
    -- what the two sides share
    (hs : ∀ i, cand i → 0 < s i) (hcls : ∀ i, cand i → cls i ≠ 0) (hself : ∀ i, cand i → ov i i)
    -- the loops of the classes
    (hrat : ∀ c t, FirstMax (fun i : Fin n => i.val) (rsc c t) (rat c t))
    (hr0 : ∀ c i, (cand i ∧ cls i = c.succ → rsc c 0 i = s i) ∧ (¬ (cand i ∧ cls i = c.succ) → rsc c 0 i = -1))
    (hrstep : ∀ c t x, (0 ≤ rsc c t (rat c t) ∧ ov (rat c t) x → rsc c (t + 1) x = -1) ∧
      (¬ (0 ≤ rsc c t (rat c t) ∧ ov (rat c t) x) → rsc c (t + 1) x = rsc c t x))
    -- the keys and the sort
    {f : Fin n → EReal}
    (hf : ∀ k, (((∃ c, ∃ t < 100, 0 ≤ rsc c t (rat c t) ∧ rat c t = k) ∧ cand k) → f k = s k) ∧
      (¬ ((∃ c, ∃ t < 100, 0 ≤ rsc c t (rat c t) ∧ rat c t = k) ∧ cand k) → f k = -1))
    {B : Fin n → Fin n → Bool} (hB : ∀ i j, B i j = true ↔ f j < f i) (t : ℕ) (ht : t < 100) :
    (0 ≤ sc t (at' t) → at' t = e (sortedFrom B ⟨t, by omega⟩) ∧ sc t (at' t) = s (sortedFrom B ⟨t, by omega⟩) ∧
        f (sortedFrom B ⟨t, by omega⟩) = s (sortedFrom B ⟨t, by omega⟩) ∧ 0 < f (sortedFrom B ⟨t, by omega⟩)) ∧
      (¬ 0 ≤ sc t (at' t) → f (sortedFrom B ⟨t, by omega⟩) = -1) := by
  classical
  obtain ⟨hG, hsome, hnone⟩ := loop_greedy he hpos hat (fun i hi => le_of_lt (hs i hi)) h0 hpad hstep
  have hC := fun c => loop_greedy (e := id) (pos := fun i : Fin n => i.val) (cand := fun i => cand i ∧ cls i = c.succ)
    (fun _ => rfl) Fin.val_injective (hrat c) (fun i hi => le_of_lt (hs i hi.1)) (hr0 c)
    (fun x hx => absurd x.isLt (not_lt.mpr hx)) (hrstep c)
  let Ac : Fin (C + 1) → ℕ → Fin n → Prop := fun c =>
    Fin.cases (motive := fun _ => ℕ → Fin n → Prop) (fun _ _ => False) (fun c t i => 0 ≤ rsc c t i) c
  let pc : Fin (C + 1) → ℕ → Option (Fin n) := fun c =>
    Fin.cases (motive := fun _ => ℕ → Option (Fin n)) (fun _ => none)
      (fun c t => pickOf n (fun i : Fin n => i.val) (rsc c t (rat c t)) (rat c t)) c
  have hc : ∀ c, GreedyRun (ranks s) (fun k => cand k ∧ cls k = c) ov (Ac c) (pc c) := by
    intro c
    refine Fin.cases ?_ (fun c => ?_) c
    · exact ⟨fun k => ⟨fun h => h.elim, fun h => hcls k h.1 h.2⟩, fun _ _ _ h => h, fun _ _ _ => Iff.rfl,
        fun _ _ h => absurd h (by simp [pc]), fun _ _ h => absurd h (by simp [pc]), fun _ _ h => absurd h (by simp [pc])⟩
    · exact (hC c).1
  have hG' : GreedyRun (ranks s) cand (fun i k => cls i = cls k ∧ ov i k) (fun t i => 0 ≤ sc t (e i))
      (fun t => pickOf n pos (sc t (at' t)) (at' t)) := by
    have hr : (fun i k => rel (e i) (e k)) = (fun i k => cls i = cls k ∧ ov i k) := by
      funext i k; exact propext (hrel i k)
    rw [← hr]; exact hG
  have hkeep : ∀ k, KeptBy cls pc 100 k ↔ ((∃ c, ∃ t < 100, 0 ≤ rsc c t (rat c t) ∧ rat c t = k) ∧ cand k) := by
    intro k
    constructor
    · rintro ⟨u, hu, hp⟩
      have hk := (hc (cls k)).cand_of_alive ((hc (cls k)).some_alive u k hp)
      refine ⟨?_, hk.1⟩
      obtain ⟨c, hcc⟩ := Fin.exists_succ_eq.mpr (hcls k hk.1)
      rw [← hcc] at hp
      have hp' := (hC c).2.1 u k hp
      exact ⟨c, u, hu, hp'.2.1, hp'.1⟩
    · rintro ⟨⟨c, u, hu, hv, hk⟩, hck⟩
      have hp : pc c.succ u = some k := by
        show pickOf n (fun i : Fin n => i.val) (rsc c u (rat c u)) (rat c u) = some k
        unfold pickOf
        rw [dif_pos ⟨hv, (rat c u).isLt⟩]
        exact congrArg some hk
      have hcl := ((hc c.succ).cand_of_alive ((hc c.succ).some_alive u k hp)).2
      exact ⟨u, hu, by rw [hcl]; exact hp⟩
  have hfk : ∀ k, (KeptBy cls pc 100 k → f k = s k ∧ 0 < f k) ∧ (¬ KeptBy cls pc 100 k → f k = -1) := by
    intro k
    rw [hkeep]
    refine ⟨fun h => ?_, (hf k).2⟩
    have := (hf k).1 h
    exact ⟨this, this ▸ hs k h.2⟩
  have hneg : (-1 : EReal) < 0 := neg_one_lt_zero_ereal
  have hL := listed_picks (T := 100) (n := n) (ranks_asymm s) hG' hc hself (sortedFrom B) (ranks f)
    (sortedFrom_injective B) (sortedFrom_surjective B) (ranks_asymm f) (ranks_sortedFrom f B hB)
    (fun i j hi hj h => by
      unfold ranks
      rw [((hfk i).1 hi).1, ((hfk j).1 hj).1]; exact h)
    (fun i j hi hj => .inl (by
      rw [(hfk j).2 hj]; exact lt_trans hneg ((hfk i).1 hi).2))
    t ht (by omega)
  constructor
  · intro hv
    rcases hp : pickOf n pos (sc t (at' t)) (at' t) with _ | j
    · exact absurd hv (hnone t hp)
    · have hj := hL.1 j hp
      obtain ⟨ha, -, hval⟩ := hsome t j hp
      have hk := kept_of_pick (ranks_asymm s) hG' hc ht hp
      rw [hj]
      exact ⟨ha, hval, (hfk j).1 hk⟩
  · intro hv
    rcases hp : pickOf n pos (sc t (at' t)) (at' t) with _ | j
    · exact (hfk _).2 (hL.2 hp)
    · exact absurd (hsome t j hp).2.1 hv

end Cert.Proof
-- ==== Proof.PreFacts.lean ====
/- The shape relations that the precondition's function states, each decided. -/
module

public import proofs.«01_k».proof.Pre_boxes_overlap_themselves
public import Idealize.ShloMosaic.Lib.Decide

@[expose] public section

namespace Cert.Proof

/-- Every shape relation of the precondition's function holds. -/
instance preFacts : Cert.Pre_boxes_overlap_themselves.Facts := by
  constructor <;> decide

end Cert.Proof

end
-- ==== Proof.Gathers.lean ====
/- The reference's gathers read at an index. -/
module

public import Idealize.ShloMosaic.PureOps
public import Idealize.ShloMosaic.Lib.Pointwise

@[expose] public section

noncomputable section

namespace Cert.Proof.R

open Idealize.ShloMosaic

variable {α : Type}

/-- The dimension numbers of a gather of whole rows, image by image. -/
abbrev rowsDims (B N R D : ℕ) (wf : GatherDims.WF ⟨3, ![B, N, D]⟩ ⟨3, ![B, R, 1]⟩ ⟨3, ![B, R, D]⟩ [2] [1] [0] [1] [0] 2 ![1, 1, D]) :
    GatherDims ⟨3, ![B, N, D]⟩ ⟨3, ![B, R, 1]⟩ ⟨3, ![B, R, D]⟩ where
  offsetDims := [2]
  collapsedSliceDims := [1]
  operandBatchingDims := [0]
  startIndicesBatchingDims := [0]
  startIndexMap := [1]
  indexVectorDim := 2
  sliceSizes := ![1, 1, D]
  wf := wf

/-- A gather of whole rows, image by image: at `(b, r, d)` the row that the index at `(b, r)` names. -/
theorem gather_rows (B N R D : ℕ) (hN : 0 < N)
    (wf : GatherDims.WF ⟨3, ![B, N, D]⟩ ⟨3, ![B, R, 1]⟩ ⟨3, ![B, R, D]⟩ [2] [1] [0] [1] [0] 2 ![1, 1, D])
    (x : (⟨3, ![B, N, D]⟩ : Shape).Idx → α) (idx : IVec ⟨3, ![B, R, 1]⟩ 32) (b : Fin B) (r : Fin R) (d : Fin D) :
    Host.gather (rowsDims B N R D wf) x idx (ix3 b r d) =
      x (ix3 b ⟨min (idx (ix3 b r 0)).toInt.toNat (N - 1), by omega⟩ d) := by
  unfold Host.gather
  congr 1
  funext a
  refine Fin.ext ?_
  have hs : (rowsDims B N R D wf).siIdx (ix3 b r d) ⟨0, Nat.one_pos⟩ = ix3 b r 0 := by
    funext e; refine Fin.ext ?_
    match e with
    | ⟨0, _⟩ => rfl
    | ⟨1, _⟩ => rfl
    | ⟨2, _⟩ => rfl
  match a with
  | ⟨0, _⟩ => show 0 + _ + 0 = _; rw [Nat.zero_add, Nat.add_zero]; rfl
  | ⟨1, _⟩ =>
    show min (idx ((rowsDims B N R D wf).siIdx (ix3 b r d) ⟨0, Nat.one_pos⟩)).toInt.toNat (N - 1) + 0 + 0 = _
    rw [hs]; rfl
  | ⟨2, _⟩ => show 0 + 0 + _ = _; rw [Nat.zero_add]; rfl

/-- The dimension numbers of the gather of each region's deltas at its class. -/
abbrev classDims (B N C D : ℕ)
    (wf : GatherDims.WF ⟨4, ![B, N, C, D]⟩ ⟨4, ![B, N, 1, 1]⟩ ⟨4, ![B, N, 1, D]⟩ [3] [2] [0, 1] [2] [0, 1] 3 ![1, 1, 1, D]) :
    GatherDims ⟨4, ![B, N, C, D]⟩ ⟨4, ![B, N, 1, 1]⟩ ⟨4, ![B, N, 1, D]⟩ where
  offsetDims := [3]
  collapsedSliceDims := [2]
  operandBatchingDims := [0, 1]
  startIndicesBatchingDims := [0, 1]
  startIndexMap := [2]
  indexVectorDim := 3
  sliceSizes := ![1, 1, 1, D]
  wf := wf

theorem gather_class (B N C D : ℕ) (hC : 0 < C)
    (wf : GatherDims.WF ⟨4, ![B, N, C, D]⟩ ⟨4, ![B, N, 1, 1]⟩ ⟨4, ![B, N, 1, D]⟩ [3] [2] [0, 1] [2] [0, 1] 3 ![1, 1, 1, D])
    (x : (⟨4, ![B, N, C, D]⟩ : Shape).Idx → α) (idx : IVec ⟨4, ![B, N, 1, 1]⟩ 32) (b : Fin B) (i : Fin N) (d : Fin D) :
    Host.gather (classDims B N C D wf) x idx (ix4 b i 0 d) =
      x (ix4 b i ⟨min (idx (ix4 b i 0 0)).toInt.toNat (C - 1), by omega⟩ d) := by
  unfold Host.gather
  congr 1
  funext a
  refine Fin.ext ?_
  have hs : (classDims B N C D wf).siIdx (ix4 b i 0 d) ⟨0, Nat.one_pos⟩ = ix4 b i 0 0 := by
    funext e; refine Fin.ext ?_
    match e with
    | ⟨0, _⟩ => rfl
    | ⟨1, _⟩ => rfl
    | ⟨2, _⟩ => rfl
    | ⟨3, _⟩ => rfl
  match a with
  | ⟨0, _⟩ => show 0 + _ + 0 = _; rw [Nat.zero_add, Nat.add_zero]; rfl
  | ⟨1, _⟩ => show 0 + _ + 0 = _; rw [Nat.zero_add, Nat.add_zero]; rfl
  | ⟨2, _⟩ =>
    show min (idx ((classDims B N C D wf).siIdx (ix4 b i 0 d) ⟨0, Nat.one_pos⟩)).toInt.toNat (C - 1) + 0 + 0 = _
    rw [hs]; rfl
  | ⟨3, _⟩ => show 0 + 0 + _ = _; rw [Nat.zero_add]; rfl

end Cert.Proof.R

end
-- ==== Proof.RLoop.lean ====
/- One trip of the reference's loop, read at an index: the box taken in each class, what it strikes out, the mask of the
   boxes taken so far. -/
module

public import proofs.«01_k».proof.Proof.Gen.ReferenceIdeal.Run
public import proofs.«01_k».proof.Proof.Spec
public import proofs.«01_k».proof.Proof.Folds
public import proofs.«01_k».proof.Proof.Gathers
public import Idealize.ShloMosaic.Lib.Tactic.CleanTypes

@[expose] public section

set_option maxRecDepth 65536

noncomputable section

namespace Cert.Proof.R

open Idealize.ShloMosaic Idealize.ShloMosaic.TcCoe Idealize.ShloMosaic.StableHlo
open Cert.ReferenceIdeal Cert.ReferenceIdeal.Gen Cert.ReferenceIdeal.Value

/-- A word that names one of `n` places is none of the negative ones, so it stays as it is. -/
theorem kept_word (k : ℕ) (hk : k < 2 ^ 31) (big : BitVec 32) :
    Scalar.select (IntOp.cmpi .slt (BitVec.ofNat 32 k) 0#32) (IntOp.addi (BitVec.ofNat 32 k) big) (BitVec.ofNat 32 k) = BitVec.ofNat 32 k := by
  have h : IntOp.cmpi .slt (BitVec.ofNat 32 k) 0#32 = 0#1 := by
    have e := toInt_ofNat_lt (n := k) hk
    have : ¬ (BitVec.ofNat 32 k).slt 0#32 := by
      rw [BitVec.slt_iff_toInt_lt, e]
      simp
    simp [IntOp.cmpi, this]
  rw [h]
  rfl

section
variable (U : Valuation τ sig (Elt Ideal)) (bx : Fin 2 → Fin 5000 → Fin 4 → EReal)

/-- The scores of class `cl` of image `b`, region by region. -/
def line (b : Fin 2) (cl : Fin 80) (i : Fin 5000) : EReal := U main_v136_3 (ix3 b cl i)

variable {U bx} {b : Fin 2} {cl : Fin 80} {k : Fin 5000} (hk : FirstMax (fun i : Fin 5000 => i.val) (line U b cl) k)
  (hb : ∀ i d, U main_v136_0 (ix3 b i d) = bx b i d)

include hk in
theorem max_at : res_main_while0b_v153 U (ix2 b cl) = line U b cl k := by
  unfold res_main_while0b_v153
  clean_types
  pointwise
  rw [ofBits_neg_inf]
  exact fold_max_eq (f := line U b cl) hk

include hk in
theorem first_at : res_main_while0b_v159 U (ix2 b cl) = BitVec.ofNat 32 k.val := by
  simp only [res_main_while0b_v159, id_eq]
  clean_types
  pointwise
  rw [max_at hk]
  refine fold_minsi_eq hk 5000#32 2147483647#32 (fun x => by have := x.isLt; omega)
    (fun x => by have := x.isLt; have e : (5000#32 : BitVec 32).toInt = 5000 := by decide
                 rw [e]; omega)
    (fun x => by have := x.isLt; have e : (2147483647#32 : BitVec 32).toInt = 2147483647 := by decide
                 rw [e]; omega) _ (fun x => ⟨fun h => if_pos h, fun h => if_neg h⟩)

include hk in
theorem live_at : res_main_while0b_v162 U (ix3 b cl 0) = 1#1 ↔ 0 ≤ line U b cl k := by
  pointwise [res_main_while0b_v162]
  rw [max_at hk]
  exact ofBool_decide_iff _

include hk in
theorem first_at' : res_main_while0b_v172 U (ix3 b cl 0) = BitVec.ofNat 32 k.val := by
  pointwise [res_main_while0b_v172]
  exact first_at hk

include hk hb in
theorem taken_at (d : Fin 4) : res_main_while0b_v174 U (ix4 b cl 0 d) = bx b k d := by
  simp only [res_main_while0b_v174, id_eq]
  pointwise
  refine (gather_rows 2 5000 80 4 (by decide) _ _ _ b cl d).trans ?_
  have e : ∀ w : BitVec 32, w = BitVec.ofNat 32 k.val → ∀ h, (U main_v136_0 (ix3 b ⟨min w.toInt.toNat (5000 - 1), h⟩ d) : EReal) = bx b k d := by
    intro w hw h
    rw [← hb k d]
    refine congrArg (fun x => U main_v136_0 (ix3 b x d)) (Fin.ext ?_)
    have := k.isLt
    subst hw
    simp only [toInt_ofNat_lt (n := k.val) (by omega)]
    omega
  refine e _ ?_ _
  pointwise
  rw [first_at' hk]
  exact kept_word k.val (by have := k.isLt; omega) 5000#32

include hb in
theorem all_at (i : Fin 5000) (d : Fin 4) : res_main_while0b_v175 U (ix4 b 0 i d) = bx b i d := by
  pointwise [res_main_while0b_v175]
  exact hb i d

include hk hb in
theorem inter_at (i : Fin 5000) : res_main_while0b_v210 U (ix3 b cl i) = Spec.inter (bx b k) (bx b i) := by
  pointwise [res_main_while0b_v210]
  simp only [taken_at hk hb, all_at hb]
  rfl

include hk hb in
theorem score_step (i : Fin 5000) :
    (0 ≤ line U b cl k ∧ Spec.thr < Spec.iou (bx b k) (bx b i) → line (STEP U) b cl i = -1) ∧
    (¬ (0 ≤ line U b cl k ∧ Spec.thr < Spec.iou (bx b k) (bx b i)) → line (STEP U) b cl i = line U b cl i) := by
  have e : line (STEP U) b cl i = step_main_v136_3 U (ix3 b cl i) := by unfold line; rw [STEP_main_v136_3]
  rw [e]
  simp only [step_main_v136_3, id_eq]
  pointwise
  simp only [inter_at hk hb, taken_at hk hb, all_at hb]
  rw [ofBits_neg_one]
  exact select_iff ((andi_one_iff _ _).trans (and_congr (live_at hk) (ofBool_decide_iff _))) _ _

include hk in
theorem mask_step (i : Fin 5000) : STEP U main_v136_4 (ix3 b cl i) = 1#1 ↔
    U main_v136_4 (ix3 b cl i) = 1#1 ∨ (0 ≤ line U b cl k ∧ k = i) := by
  rw [STEP_main_v136_4]
  simp only [step_main_v136_4, id_eq]
  pointwise
  rw [first_at hk]
  refine (ori_one_iff _ _).trans (or_congr Iff.rfl ((andi_one_iff _ _).trans (and_congr (live_at hk) ((cmpi_eq_iff _ _).trans ?_))))
  have hi := i.isLt
  have hk' := k.isLt
  constructor
  · intro h
    have := congrArg BitVec.toNat h
    rw [BitVec.toNat_ofNat, BitVec.toNat_ofNat, Nat.mod_eq_of_lt (by omega), Nat.mod_eq_of_lt (by omega)] at this
    exact Fin.ext this.symm
  · rintro rfl; rfl

end

/-- The loop's state after `t` trips. -/
def stAt (U : Valuation τ sig (Elt Ideal)) (t : ℕ) : Valuation τ sig (Elt Ideal) := STEP^[t] U

theorem stAt_succ (U : Valuation τ sig (Elt Ideal)) (t : ℕ) : stAt U (t + 1) = STEP (stAt U t) := Function.iterate_succ_apply' _ _ _

/-- The box that class `cl` of image `b` takes at trip `t`. -/
def pick (U : Valuation τ sig (Elt Ideal)) (b : Fin 2) (cl : Fin 80) (t : ℕ) : Fin 5000 :=
  star (fun i : Fin 5000 => i.val) (line (stAt U t) b cl)

theorem pick_spec (U : Valuation τ sig (Elt Ideal)) (b : Fin 2) (cl : Fin 80) (t : ℕ) :
    FirstMax (fun i : Fin 5000 => i.val) (line (stAt U t) b cl) (pick U b cl t) := star_spec _ _

theorem boxes_stay (U : Valuation τ sig (Elt Ideal)) (t : ℕ) : stAt U t main_v136_0 = U main_v136_0 := by
  induction t with
  | zero => rfl
  | succ t ih => rw [stAt_succ, STEP_main_v136_0, ih]

section
variable {U : Valuation τ sig (Elt Ideal)} {bx : Fin 2 → Fin 5000 → Fin 4 → EReal} {b : Fin 2} (cl : Fin 80)

theorem line_step (hb : ∀ i d, U main_v136_0 (ix3 b i d) = bx b i d) (t : ℕ) (i : Fin 5000) :
    (0 ≤ line (stAt U t) b cl (pick U b cl t) ∧ Spec.thr < Spec.iou (bx b (pick U b cl t)) (bx b i) → line (stAt U (t + 1)) b cl i = -1) ∧
    (¬ (0 ≤ line (stAt U t) b cl (pick U b cl t) ∧ Spec.thr < Spec.iou (bx b (pick U b cl t)) (bx b i)) →
      line (stAt U (t + 1)) b cl i = line (stAt U t) b cl i) := by
  rw [stAt_succ]
  exact score_step (pick_spec U b cl t) (fun i d => by rw [boxes_stay]; exact hb i d) i

theorem mask_after (h0 : ∀ i, U main_v136_4 (ix3 b cl i) = 0#1) (t : ℕ) (i : Fin 5000) :
    stAt U t main_v136_4 (ix3 b cl i) = 1#1 ↔ ∃ n < t, 0 ≤ line (stAt U n) b cl (pick U b cl n) ∧ pick U b cl n = i := by
  induction t with
  | zero =>
    have e : stAt U 0 main_v136_4 (ix3 b cl i) = 0#1 := h0 i
    rw [e]
    exact ⟨fun h => absurd h (show ¬ (0#1 : BitVec 1) = 1#1 by decide), fun ⟨n, hn, _⟩ => absurd hn (Nat.not_lt_zero n)⟩
  | succ t ih =>
    rw [stAt_succ, mask_step (pick_spec U b cl t), ih]
    constructor
    · rintro (⟨n, hn, h⟩ | h)
      · exact ⟨n, by omega, h⟩
      · exact ⟨t, by omega, h⟩
    · rintro ⟨n, hn, h⟩
      rcases Nat.lt_succ_iff_lt_or_eq.mp hn with h' | rfl
      · exact .inl ⟨n, h', h⟩
      · exact .inr h

end

end Cert.Proof.R

end
-- ==== Proof.RRun.lean ====
/- The reference program: its run, its frame, and its result buffer as a function of the loop's last state. -/
module

public import proofs.«01_k».proof.Proof.Gen.ReferenceIdeal.Run
public import Idealize.ShloMosaic.Lib.Quiescent

@[expose] public section

set_option maxRecDepth 8192

noncomputable section

namespace Cert.Proof.R

open Idealize.ShloMosaic Idealize.ShloMosaic.TcCoe Idealize.ShloMosaic.StableHlo
open Idealize.SL.Sem
open Cert.ReferenceIdeal Cert.ReferenceIdeal.Gen Cert.ReferenceIdeal.Value

variable {F : FTy → Type} [FloatOps F]

/-- What the stretches after the loop write, in order. -/
abbrev postW : List (Ref sig .tc) := [main_c_18, main_v137, main_v138, main_cst_19, main_call6_v0, main_call6_v1, main_v139,
  main_values, main_indices, main_cst_20, main_v140, main_v141, main_v142, main_v143, main_v144, main_v145, main_v146, main_v147,
  main_call7_c, main_call7_v0, main_call7_v1, main_call7_c_0, main_call7_v2, main_call7_v3, main_call7_v4, main_v148,
  main_v149, main_v150, main_v151]

/-- The stretches after the loop as one list. -/
theorem post_writes : ((hostOps0_7 ++ hostOps0_8 ++ hostOps0_9 ++ hostOps0_10 ++ hostOps0_11 : List (HloOp τ sig (Elt F)))).Forall
    fun op => op.writes ⊆ (postW.map (Proc.devRef (τ := τ) .tc)).toFinset :=
  StableHlo.forall_writes_sub_of_map rfl

/-- A buffer that no stretch after the loop writes keeps its contents through them. -/
theorem post_keep (V : Valuation τ sig (Elt F)) (r : Ref sig .tc) (h : r ∉ postW) :
    afterL postI V (Proc.devRef .tc r) = V (Proc.devRef .tc r) := by
  rw [afterL_eq_after_flatten]
  have e : (postI : List (List (HloOp τ sig (Elt F)))).flatten = hostOps0_7 ++ hostOps0_8 ++ hostOps0_9 ++ hostOps0_10 ++ hostOps0_11 := by
    simp only [List.flatten_cons, List.flatten_nil, List.append_nil, List.append_assoc]
  rw [e]
  exact after_of_writes_sub _ V post_writes h

/-- A buffer that one trip of the loop does not write keeps its contents through it. -/
theorem trip_keep (V : Valuation τ sig (Elt F)) (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W) (h6 : r ∉ while0Ops0_6_W) :
    afterL bodyI (after condOps V) (Proc.devRef .tc r) = V (Proc.devRef .tc r) := by
  simp only [afterL_cons, afterL_nil]
  rw [after_of_writes_sub _ _ while0Ops0_6_writes h6, after_of_writes_sub _ _ while0Ops0_5_writes h5,
    after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0, after_of_writes_sub _ _ condOps_writes hc]

variable (m : (ℓ : Loc nD τ sig) → Buf (Elt F) ℓ) (ρ : Dev nD → PrngReg)

/-- A buffer that the loop does not write is, at any trip, what it was at the loop's entry. -/
theorem atK_keep (c : Dev nD) (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W) (h6 : r ∉ while0Ops0_6_W) :
    ∀ k, atK m k c (Proc.devRef .tc r) = entryContents preI m c (Proc.devRef .tc r)
  | 0 => rfl
  | k + 1 => (trip_keep (atK m k c) r hc h0 h1 h2 h3 h4 h5 h6).trans (atK_keep c r hc h0 h1 h2 h3 h4 h5 h6 k)

/-- The buffers as the stretches after the loop find them. -/
def exitV (c : Dev nD) : Valuation τ sig (Elt F) := after condOps (atK m 100 c)

theorem exit_keep (c : Dev nD) (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W) (h6 : r ∉ while0Ops0_6_W) :
    exitV m c (Proc.devRef .tc r) = entryContents preI m c (Proc.devRef .tc r) :=
  (after_of_writes_sub _ _ condOps_writes hc).trans (atK_keep m c r hc h0 h1 h2 h3 h4 h5 h6 100)

/-- The kept mask as the stretches after the loop find it. -/
theorem exit_mask (c : Dev nD) : exitV m c (Proc.devRef .tc main_v136_4) = (STEP^[100] (entryContents preI m c)) (Proc.devRef .tc main_v136_4) :=
  (after_of_writes_sub _ _ condOps_writes (by decide +kernel)).trans (atK_agree m c 100 main_v136_4 (by decide))

/-- A buffer that no stretch before the loop writes is as launched at the loop's entry. -/
theorem entry_keep (c : Dev nD) (r : Ref sig .tc) (h0 : r ∉ hostOps0_W) (h1 : r ∉ hostOps0_1_W)
    (h2 : r ∉ hostOps0_2_W) (h3 : r ∉ hostOps0_3_W) (h4 : r ∉ hostOps0_4_W) (h5 : r ∉ hostOps0_5_W) (h6 : r ∉ hostOps0_6_W) :
    entryContents preI m c (Proc.devRef .tc r) = m ((c.tc : Thread nD τ).loc r) := by
  simp only [entryContents, afterL_cons, afterL_nil]
  rw [after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- What the reference's result buffer holds after the run. -/
def result (c : Dev nD) : Buf (Elt F) ((c.tc : Thread nD τ).loc main_v151) := afterL postI (exitV m c) (Proc.devRef .tc main_v151)

/-- What the run leaves on one device: the arguments as launched and the result. -/
def Fin1 (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_v151) = result m c

/-- No stretch of the program writes the argument `r`. -/
theorem arg_keep (c : Dev nD) (r : Ref sig .tc) (h : r = main_arg0 ∨ r = main_arg1 ∨ r = main_arg2 ∨ r = main_arg3) :
    finalContents condOps preI bodyI postI 100 m c (Proc.devRef .tc r) = m ((c.tc : Thread nD τ).loc r) := by
  show afterL postI (exitV m c) (Proc.devRef .tc r) = _
  rcases h with rfl | rfl | rfl | rfl <;>
  exact (post_keep _ _ (by decide +kernel)).trans ((exit_keep m c _ (by decide +kernel) (by decide +kernel) (by decide +kernel) (by decide +kernel)
    (by decide +kernel) (by decide +kernel) (by decide +kernel) (by decide +kernel)).trans (entry_keep m c _ (by decide +kernel) (by decide +kernel)
    (by decide +kernel) (by decide +kernel) (by decide +kernel) (by decide +kernel) (by decide +kernel)))

/-- The reference runs to the end, its arguments as launched and every counter at zero. -/
theorem run : θ_run (Cert.ReferenceIdeal.defs (F := F)) (onTc (τ := τ) (Cert.ReferenceIdeal.main (F := F))) ⟨m, fun _ => 0, ρ⟩
    (fun r => (∀ c, Fin1 m c r.2) ∧ r.2.sem = fun _ => 0) := by
  refine (θ_run _ _ _).mono (fun r hr => ⟨fun c => ?_, sem_eq_zero_of_no_sems (by decide) _⟩) (run_fold m ρ)
  exact ⟨(hr c main_arg0 rfl).trans (arg_keep m c _ (by simp)), (hr c main_arg1 rfl).trans (arg_keep m c _ (by simp)),
    (hr c main_arg2 rfl).trans (arg_keep m c _ (by simp)), (hr c main_arg3 rfl).trans (arg_keep m c _ (by simp)), hr c main_v151 rfl⟩

end Cert.Proof.R

end
-- ==== Proof.RPre.lean ====
/- What the reference's loop finds at its entry: the window, the classes, the scores, the refined boxes and the scores
   listed class by class. -/
module

public import proofs.«01_k».proof.Proof.RRun
public import proofs.«01_k».proof.Proof.Spec
public import proofs.«01_k».proof.Proof.Folds
public import proofs.«01_k».proof.Proof.Gathers
public import Idealize.ShloMosaic.Lib.StableHlo.ReadAt

@[expose] public section

set_option maxRecDepth 65536

noncomputable section

namespace Cert.Proof.R

open Idealize.ShloMosaic Idealize.ShloMosaic.TcCoe Idealize.ShloMosaic.StableHlo
open Idealize.SL.Sem
open Cert.ReferenceIdeal Cert.ReferenceIdeal.Gen Cert.ReferenceIdeal.Value

variable (V : Valuation τ sig (Elt Ideal))

/-! ## The stretches before the loop, one after another -/

abbrev U1 : Valuation τ sig (Elt Ideal) := after hostOps0 V
abbrev U2 : Valuation τ sig (Elt Ideal) := after hostOps0_1 (U1 V)
abbrev U3 : Valuation τ sig (Elt Ideal) := after hostOps0_2 (U2 V)
abbrev U4 : Valuation τ sig (Elt Ideal) := after hostOps0_3 (U3 V)
abbrev U5 : Valuation τ sig (Elt Ideal) := after hostOps0_4 (U4 V)
abbrev U6 : Valuation τ sig (Elt Ideal) := after hostOps0_5 (U5 V)
abbrev U7 : Valuation τ sig (Elt Ideal) := after hostOps0_6 (U6 V)

abbrev iR : Spec.Rois := V main_arg0
abbrev iP : Spec.Probs := V main_arg1
abbrev iD : Spec.Deltas := V main_arg2
def iW : Spec.Win := fun b d => U1 V main_v21 (ix2 b d)

theorem keep1 (r : Ref sig .tc) (h : r ∉ hostOps0_W) : U1 V r = V r := after_of_writes_sub _ _ hostOps0_writes h
theorem keep2 (r : Ref sig .tc) (h : r ∉ hostOps0_1_W) : U2 V r = U1 V r := after_of_writes_sub _ _ hostOps0_1_writes h
theorem keep3 (r : Ref sig .tc) (h : r ∉ hostOps0_2_W) : U3 V r = U2 V r := after_of_writes_sub _ _ hostOps0_2_writes h
theorem keep4 (r : Ref sig .tc) (h : r ∉ hostOps0_3_W) : U4 V r = U3 V r := after_of_writes_sub _ _ hostOps0_3_writes h
theorem keep5 (r : Ref sig .tc) (h : r ∉ hostOps0_4_W) : U5 V r = U4 V r := after_of_writes_sub _ _ hostOps0_4_writes h
theorem keep6 (r : Ref sig .tc) (h : r ∉ hostOps0_5_W) : U6 V r = U5 V r := after_of_writes_sub _ _ hostOps0_5_writes h
theorem keep7 (r : Ref sig .tc) (h : r ∉ hostOps0_6_W) : U7 V r = U6 V r := after_of_writes_sub _ _ hostOps0_6_writes h

theorem cls_first (b : Fin 2) (i : Fin 5000) :
    FirstMax (fun k : Fin 81 => k.val) (fun k => (iP V (ix3 b i k) : EReal)) (Spec.cls (iP V) b i) := star_spec _ _

theorem v22_at (b : Fin 2) (i : Fin 5000) : U1 V main_v22 (ix2 b i) = Spec.score (iP V) b i := by
  after_reads_at
  rw [ofBits_neg_inf]
  exact fold_max_eq (f := fun k => (iP V (ix3 b i k) : EReal)) (cls_first V b i)

theorem v28_at (b : Fin 2) (i : Fin 5000) : U3 V main_v28 (ix2 b i) = BitVec.ofNat 32 (Spec.cls (iP V) b i).val := by
  after_reads_at
  rw [ofBits_neg_inf, fold_max_eq (f := fun k => (iP V (ix3 b i k) : EReal)) (cls_first V b i)]
  refine fold_minsi_eq (cls_first V b i) 81#32 2147483647#32 (fun x => by have := x.isLt; omega)
    (fun x => by have := x.isLt; have e : (81#32 : BitVec 32).toInt = 81 := by decide
                 rw [e]; omega)
    (fun x => by have := x.isLt; have e : (2147483647#32 : BitVec 32).toInt = 2147483647 := by decide
                 rw [e]; omega) _ (fun x => ⟨fun h => if_pos h, fun h => if_neg h⟩)

/-- A word that names one of `n` places is none of the negative ones, so it stays as it is. -/
theorem wrapped (n k : ℕ) (hk : k < n) (hn : n < 2 ^ 31) (big : BitVec 32) :
    Scalar.select (IntOp.cmpi .slt (BitVec.ofNat 32 k) 0#32) (IntOp.addi (BitVec.ofNat 32 k) big) (BitVec.ofNat 32 k) = BitVec.ofNat 32 k := by
  have h : IntOp.cmpi .slt (BitVec.ofNat 32 k) 0#32 = 0#1 := by
    have e := toInt_ofNat_lt (n := k) (by omega)
    have : ¬ (BitVec.ofNat 32 k).slt 0#32 := by
      rw [BitVec.slt_iff_toInt_lt, e]
      simp
    simp [IntOp.cmpi, this]
  rw [h]
  rfl

theorem call1_at (b : Fin 2) (i : Fin 5000) : U4 V main_call1_v4 (ix4 b i 0 0) = BitVec.ofNat 32 (Spec.cls (iP V) b i).val := by
  have h : U3 V main_v29 (ix4 b i 0 0) = U3 V main_v28 (ix2 b i) := by
    after_reads_at
  rw [v28_at] at h
  unfold U4
  generalize U3 V = U at h ⊢
  after_reads_at
  rw [h]
  exact wrapped 81 _ (Spec.cls (iP V) b i).isLt (by norm_num) 81#32

theorem v30_at (b : Fin 2) (i : Fin 5000) (d : Fin 4) : U4 V main_v30 (ix4 b i 0 d) = Spec.delta (iP V) (iD V) b i d := by
  have h : U4 V main_v30 = Host.gather gather_S2x5000x81x4_S2x5000x1x1_S2x5000x1x4_3_2_01_01_2_3_1114
      (U3 V main_arg2) (U4 V main_call1_v4) := by
    unfold U4
    generalize U3 V = U
    after_reads_simp
    rfl
  rw [h, keep3 V main_arg2 (by decide +kernel), keep2 V main_arg2 (by decide +kernel), keep1 V main_arg2 (by decide +kernel)]
  refine (gather_class 2 5000 81 4 (by decide) _ (iD V) (U4 V main_call1_v4) b i d).trans ?_
  have := (Spec.cls (iP V) b i).isLt
  have e : (U4 V main_call1_v4 (ix4 b i 0 0)).toInt.toNat = (Spec.cls (iP V) b i).val := by
    rw [call1_at, toInt_ofNat_lt (by omega)]
    omega
  exact congrArg (fun k => iD V (ix4 b i k d)) (Fin.ext (by simp only [e]; omega))

theorem cst_at (d : Fin 4) : U4 V main_cst_0 (ix1 d) = (![Spec.tenth, Spec.tenth, Spec.fifth, Spec.fifth] : Fin 4 → EReal) d := by
  rw [keep4 V main_cst_0 (by decide +kernel), keep3 V main_cst_0 (by decide +kernel), keep2 V main_cst_0 (by decide +kernel)]
  match d with
  | 0 => after_reads_at; rfl
  | 1 => after_reads_at; rfl
  | 2 => after_reads_at; rfl
  | 3 => after_reads_at; rfl

theorem v116_at (b : Fin 2) (i : Fin 5000) (d : Fin 4) : U5 V main_v116 (ix3 b i d) = Spec.box (iR V) (iP V) (iD V) (iW V) b i d := by
  have hd : ∀ d, U4 V main_v30 (ix4 b i 0 d) = Spec.delta (iP V) (iD V) b i d := v30_at V b i
  have hr : U4 V main_arg0 = iR V := by
    rw [keep4 V main_arg0 (by decide +kernel), keep3 V main_arg0 (by decide +kernel), keep2 V main_arg0 (by decide +kernel),
      keep1 V main_arg0 (by decide +kernel)]
  have hw : ∀ d, U4 V main_v21 (ix2 b d) = iW V b d := fun d => by
    rw [keep4 V main_v21 (by decide +kernel), keep3 V main_v21 (by decide +kernel), keep2 V main_v21 (by decide +kernel)]
    rfl
  have hc := cst_at V
  unfold U5
  generalize U4 V = U at hd hr hw hc
  match d with
  | 0 =>
    after_reads_at
    simp only [unary_result']
    after_reads_at
    after_reads_at
    rw [hd, hd, hw, hw, hc, hc, hr]
    rfl
  | 1 =>
    after_reads_at
    simp only [unary_result']
    after_reads_at
    after_reads_at
    rw [hd, hd, hw, hw, hc, hc, hr]
    rfl
  | 2 =>
    after_reads_at
    simp only [unary_result']
    after_reads_at
    after_reads_at
    rw [hd, hd, hw, hw, hc, hc, hr]
    rfl
  | 3 =>
    after_reads_at
    simp only [unary_result']
    after_reads_at
    after_reads_at
    rw [hd, hd, hw, hw, hc, hc, hr]
    rfl

theorem kept_v22 (b : Fin 2) (i : Fin 5000) : U4 V main_v22 (ix2 b i) = Spec.score (iP V) b i := by
  rw [keep4 V main_v22 (by decide +kernel), keep3 V main_v22 (by decide +kernel), keep2 V main_v22 (by decide +kernel)]
  exact v22_at V b i

theorem kept_v28 (b : Fin 2) (i : Fin 5000) : U4 V main_v28 (ix2 b i) = BitVec.ofNat 32 (Spec.cls (iP V) b i).val := by
  rw [keep4 V main_v28 (by decide +kernel)]
  exact v28_at V b i

theorem cls_pos (k : Fin 81) : IntOp.cmpi .sgt (BitVec.ofNat 32 k.val) 0#32 = 1#1 ↔ k ≠ 0 := by
  revert k; decide +kernel

/-- The bit of a region that takes part. -/
theorem v121_at (b : Fin 2) (i : Fin 5000) : U5 V main_v121 (ix2 b i) = 1#1 ↔ Spec.cand (iP V) b i := by
  have h22 := kept_v22 V b i
  have h28 := kept_v28 V b i
  unfold U5
  generalize U4 V = U at h22 h28
  after_reads_at
  rw [h22, h28, andi_one_iff, ofBool_decide_iff, cls_pos]
  rfl

theorem cls_word (k : Fin 81) (cl : Fin 80) :
    BitVec.ofNat 32 k.val = IntOp.addi 1#32 (BitVec.ofNat 32 cl.val) ↔ k = cl.succ := by
  have e : IntOp.addi 1#32 (BitVec.ofNat 32 cl.val) = BitVec.ofNat 32 (1 + cl.val) := by
    rw [BitVec.ofNat_add]; rfl
  rw [e]
  constructor
  · intro h
    have h' := congrArg BitVec.toNat h
    rw [BitVec.toNat_ofNat, BitVec.toNat_ofNat] at h'
    refine Fin.ext ?_
    rw [Fin.val_succ]
    omega
  · rintro rfl
    rw [Fin.val_succ, Nat.add_comm cl.val 1]

theorem v134_at (b : Fin 2) (cl : Fin 80) (i : Fin 5000) :
    (Spec.cand (iP V) b i ∧ Spec.cls (iP V) b i = cl.succ → (show EReal from U6 V main_v134 (ix3 b cl i)) = Spec.score (iP V) b i) ∧
    (¬ (Spec.cand (iP V) b i ∧ Spec.cls (iP V) b i = cl.succ) → (show EReal from U6 V main_v134 (ix3 b cl i)) = -1) := by
  have h22 := kept_v22 V b i
  have h28 := kept_v28 V b i
  have h121 := v121_at V b i
  unfold U6 U5 at *
  generalize U4 V = U at h22 h28 h121
  have e : after hostOps0_5 (after hostOps0_4 U) main_v134 (ix3 b cl i) =
      Scalar.select (IntOp.andi (after hostOps0_4 U main_v121 (ix2 b i)) (IntOp.cmpi .eq (U main_v28 (ix2 b i)) (IntOp.addi 1#32 (BitVec.ofNat 32 cl.val))))
        (U main_v22 (ix2 b i) : EReal) (Ideal.ofBits .f32 0xBF800000#32 : EReal) := by
    after_reads_at
    rfl
  rw [e, h22, h28, ofBits_neg_one]
  refine select_iff ?_ _ _
  rw [andi_one_iff, h121, cmpi_eq_iff, cls_word]

/-! ## The loop's entry -/

variable (m : (ℓ : Loc nD τ sig) → Buf (Elt Ideal) ℓ) (c : Dev nD)

/-- The buffers as launched. -/
abbrev launched : Valuation τ sig (Elt Ideal) := fun r => m ⟨c, r⟩

theorem entry_eq : entryContents preI m c = U7 (launched m c) := rfl

theorem entry_box (b : Fin 2) (i : Fin 5000) (d : Fin 4) : entryContents preI m c main_v136_0 (ix3 b i d) =
    Spec.box (iR (launched m c)) (iP (launched m c)) (iD (launched m c)) (iW (launched m c)) b i d := by
  rw [← v116_at, ← keep6 _ main_v116 (by decide +kernel), entry_eq]
  unfold U7
  generalize U6 (launched m c) = U
  after_reads_at
  rfl

theorem entry_scores (b : Fin 2) (cl : Fin 80) (i : Fin 5000) : entryContents preI m c main_v136_3 (ix3 b cl i) = U6 (launched m c) main_v134 (ix3 b cl i) := by
  rw [entry_eq]
  unfold U7
  generalize U6 (launched m c) = U
  after_reads_at
  rfl

theorem entry_mask (b : Fin 2) (cl : Fin 80) (i : Fin 5000) : entryContents preI m c main_v136_4 (ix3 b cl i) = 0#1 := by
  rw [entry_eq]
  unfold U7
  generalize U6 (launched m c) = U
  after_reads_at
  rfl

end Cert.Proof.R

end
-- ==== Proof.Window.lean ====
/- The window of each image, as a function of the image's record. -/
module

public import proofs.«01_k».proof.Proof.KArr
public import proofs.«01_k».proof.Proof.RPre

@[expose] public section

set_option maxRecDepth 65536

noncomputable section

namespace Cert.Proof

open Idealize.ShloMosaic Idealize.ShloMosaic.TcCoe Idealize.ShloMosaic.StableHlo

/-- The images' records. -/
abbrev Metas : Type := (⟨2, ![2, 93]⟩ : Shape).Idx → EReal

/-- One entry of a record. -/
abbrev cell (M : Metas) (b : Fin 2) (k : Fin 93) : EReal := M (ix2 b k)

/-- The window of an image, in units of the first image's size. -/
def win (M : Metas) (b : Fin 2) (d : Fin 4) : EReal :=
  (![Ideal.div (M (ix2 b 7)) (M (ix2 0 4) - 1),
     Ideal.div (M (ix2 b 8)) (M (ix2 0 5) - 1),
     Ideal.div (M (ix2 b 9) - 1) (M (ix2 0 4) - 1),
     Ideal.div (M (ix2 b 10) - 1) (M (ix2 0 5) - 1)] : Fin 4 → EReal) d

section
open Cert.ReferenceIdeal Cert.ReferenceIdeal.Gen Cert.ReferenceIdeal.Value

theorem R.iW_eq (V : Valuation τ sig (Elt Ideal)) (b : Fin 2) (d : Fin 4) : R.iW V b d = win (V main_arg3) b d := by
  unfold R.iW R.U1
  match d with
  | 0 =>
    after_reads_at
    show Ideal.div (cell (V main_arg3) b 7 - Ideal.ofBits .f32 0x00000000#32) _ = _
    after_reads_at
    rfl
  | 1 =>
    after_reads_at
    show Ideal.div (cell (V main_arg3) b 8 - Ideal.ofBits .f32 0x00000000#32) _ = _
    after_reads_at
    rfl
  | 2 =>
    after_reads_at
    show Ideal.div (cell (V main_arg3) b 9 - Ideal.ofBits .f32 0x3F800000#32) _ = _
    after_reads_at
    rfl
  | 3 =>
    after_reads_at
    show Ideal.div (cell (V main_arg3) b 10 - Ideal.ofBits .f32 0x3F800000#32) _ = _
    after_reads_at
    rfl
end

section
open Cert.KernelIdeal Cert.KernelIdeal.Gen

/-- The buffers as launched. -/
abbrev launchedK (m : (ℓ : Loc nD τ sig) → Buf (Elt Ideal) ℓ) (c : Dev nD) : Valuation τ sig (Elt Ideal) := fun r => m ⟨c, r⟩

theorem I.aW_eq (m : (ℓ : Loc nD τ sig) → Buf (Elt Ideal) ℓ) (c : Dev nD) (b : Fin 2) (d : Fin 4) :
    I.aW m c b d = win (m ((c.tc : Thread nD τ).loc main_arg3)) b d := by
  unfold I.aW V1
  show after hostOps0 (launchedK m c) main_v22 (ix3 b 0 d) = win (launchedK m c main_arg3) b d
  generalize launchedK m c = V
  match d with
  | 0 =>
    after_reads_at
    show Ideal.div (cell (V main_arg3) b 7 - Ideal.ofBits .f32 0x00000000#32) _ = _
    after_reads_at
    rfl
  | 1 =>
    after_reads_at
    show Ideal.div (cell (V main_arg3) b 8 - Ideal.ofBits .f32 0x00000000#32) _ = _
    after_reads_at
    rfl
  | 2 =>
    after_reads_at
    show Ideal.div (cell (V main_arg3) b 9 - Ideal.ofBits .f32 0x3F800000#32) _ = _
    after_reads_at
    rfl
  | 3 =>
    after_reads_at
    show Ideal.div (cell (V main_arg3) b 10 - Ideal.ofBits .f32 0x3F800000#32) _ = _
    after_reads_at
    rfl
end

end Cert.Proof

end
-- ==== Proof.PreVal.lean ====
/- The precondition read at an index: every region that takes part overlaps itself. -/
module

public import proofs.«01_k».proof.Proof.PreFacts
public import proofs.«01_k».proof.Proof.Spec
public import proofs.«01_k».proof.Proof.Folds
public import proofs.«01_k».proof.Proof.RLoop
public import proofs.«01_k».proof.Proof.Window

@[expose] public section

set_option maxRecDepth 65536

noncomputable section

namespace Cert.Proof.Pre

open Idealize.ShloMosaic
open Cert.Pre_boxes_overlap_themselves

/-- What is asked of one region, over the numbers that the asking is spelled in. -/
def asked (s : EReal) (k : BitVec 32) (p : Fin 4 → EReal) : BitVec 1 :=
  IntOp.ori (~~~ IntOp.andi (IntOp.cmpi .sgt k 0#32) (BitVec.ofBool (decide (Spec.conf ≤ s))))
    (BitVec.ofBool (decide (Spec.thr < Spec.iou p p)))

theorem asked_spec (P : Spec.Probs) (b : Fin 2) (i : Fin 5000) (p : Fin 4 → EReal)
    (h : asked (Spec.score P b i) (BitVec.ofNat 32 (Spec.cls P b i).val) p = 1#1) (hc : Spec.cand P b i) : Spec.thr < Spec.iou p p := by
  have hk : ∀ k : Fin 81, IntOp.cmpi .sgt (BitVec.ofNat 32 k.val) 0#32 = 1#1 ↔ k ≠ 0 := by decide +kernel
  have hn : ∀ q : BitVec 1, q = 1#1 → ¬ (~~~ q = 1#1) := by decide
  rcases (ori_one_iff _ _).mp h with h' | h'
  · exact absurd h' (hn _ ((andi_one_iff _ _).mpr ⟨(hk _).mpr hc.1, (ofBool_decide_iff _).mpr hc.2⟩))
  · exact (ofBool_decide_iff _).mp h'

variable (b : Fin 2) (i : Fin 5000)

theorem part6_at (q : FVec Ideal S2x5000x4 .f32) (n : IVec S2x5000 1) (u : FVec Ideal S2x5000 .f32) (v : FVec Ideal S2x5000x1 .f32)
    (hu : u (ix2 b i) = max (q (ix3 b i 0)) (q (ix3 b i 0))) (hv : v (ix3 b i 0) = q (ix3 b i 1)) :
    fn_part6 (F := Ideal) q n u v (ix2 b i) =
      IntOp.ori (n (ix2 b i)) (BitVec.ofBool (decide (Spec.thr < Spec.iou (fun d => q (ix3 b i d)) (fun d => q (ix3 b i d))))) := by
  unfold fn_part6 fn_part7 fn_part8
  pointwise
  rw [hu, hv]
  rfl

theorem asked_congr {n : BitVec 1} {s : EReal} {k : BitVec 32} {p p' : Fin 4 → EReal} (h : p = p')
    (hn : n = ~~~ IntOp.andi (IntOp.cmpi .sgt k 0#32) (BitVec.ofBool (decide (Spec.conf ≤ s)))) :
    IntOp.ori n (BitVec.ofBool (decide (Spec.thr < Spec.iou p p))) = asked s k p' := by
  subst h hn; rfl

theorem part5_at (s : FVec Ideal S2x5000 .f32) (k : IVec S2x5000 32) (w1 w3 : FVec Ideal S2x1 .f32) (p0 p1 p2 : FVec Ideal S2x5000 .f32)
    (x : FVec Ideal S2x5000x1 .f32) : fn_part5 (F := Ideal) s k w1 w3 p0 p1 p2 x (ix2 b i) =
      asked (s (ix2 b i)) (k (ix2 b i)) ![p0 (ix2 b i), p1 (ix2 b i), p2 (ix2 b i), min (max (x (ix3 b i 0)) (w1 (ix2 b 0))) (w3 (ix2 b 0))] := by
  unfold fn_part5
  dsimp only
  refine (part6_at b i _ _ _ _ ?_ ?_).trans (asked_congr (funext fun d => ?_) ?_)
  · pointwise
  · pointwise
  · match d with
    | 0 => pointwise
    | 1 => pointwise
    | 2 => pointwise
    | 3 => pointwise
  · pointwise

theorem asked_eq {s : EReal} {k : BitVec 32} {p p' : Fin 4 → EReal} (h : ∀ d, p d = p' d) : asked s k p = asked s k p' := by
  rw [funext h]

theorem part4_at (w : FVec Ideal S2x4 .f32) (s : FVec Ideal S2x5000 .f32) (k : IVec S2x5000 32) (u0 u1 u2 u3 : FVec Ideal S2x5000x1 .f32) :
    fn_part4 (F := Ideal) w s k u0 u1 u2 u3 (ix2 b i) = asked (s (ix2 b i)) (k (ix2 b i))
      ![Spec.clip (fun b d => w (ix2 b d)) b (u0 (ix3 b i 0)) 0 2, Spec.clip (fun b d => w (ix2 b d)) b (u1 (ix3 b i 0)) 1 3,
        Spec.clip (fun b d => w (ix2 b d)) b (u2 (ix3 b i 0)) 0 2, Spec.clip (fun b d => w (ix2 b d)) b (u3 (ix3 b i 0)) 1 3] := by
  unfold fn_part4
  dsimp only
  refine (part5_at b i _ _ _ _ _ _ _ _).trans (asked_eq fun d => ?_)
  match d with
  | 0 => simp only [Matrix.cons_val]; pointwise; rfl
  | 1 => simp only [Matrix.cons_val]; pointwise; rfl
  | 2 => simp only [Matrix.cons_val]; pointwise; rfl
  | 3 => simp only [Matrix.cons_val]; pointwise; rfl

/-- The sides of a box from its sizes, deltas and middles. -/
theorem part3_at (w : FVec Ideal S2x4 .f32) (s : FVec Ideal S2x5000 .f32) (k : IVec S2x5000 32) (e : FVec Ideal S2x5000x4 .f32)
    (h l a b' c' : FVec Ideal S2x5000 .f32) :
    fn_part3 (F := Ideal) w s k e h l a b' c' (ix2 b i) = asked (s (ix2 b i)) (k (ix2 b i))
      (let W : Spec.Win := fun b d => w (ix2 b d)
       let H : EReal := h (ix2 b i) * Ideal.exp (e (ix3 b i 2))
       let L : EReal := l (ix2 b i) * Ideal.exp (e (ix3 b i 3))
       let y : EReal := b' (ix2 b i) - Spec.half * H
       let x : EReal := (a (ix2 b i) + c' (ix2 b i) * l (ix2 b i)) - Spec.half * L
       ![Spec.clip W b y 0 2, Spec.clip W b x 1 3, Spec.clip W b (y + H) 0 2, Spec.clip W b (x + L) 1 3]) := by
  unfold fn_part3
  dsimp only
  refine (part4_at b i _ _ _ _ _ _ _).trans (asked_eq fun d => ?_)
  match d with
  | 0 => simp only [Matrix.cons_val]; pointwise
  | 1 => simp only [Matrix.cons_val]; pointwise
  | 2 => simp only [Matrix.cons_val]; pointwise
  | 3 => simp only [Matrix.cons_val]; pointwise

variable (R : FVec Ideal S2x5000x4 .f32) (P : FVec Ideal S2x5000x81 .f32) (D : FVec Ideal S2x5000x81x4 .f32)

theorem part2_at (w : FVec Ideal S2x4 .f32) (s : FVec Ideal S2x5000 .f32) (k : IVec S2x5000 32) (e : FVec Ideal S2x5000x4 .f32)
    (hi lo : FVec Ideal S2x5000 .f32) (h1 : hi (ix2 b i) = R (ix3 b i 2)) (h0 : lo (ix2 b i) = R (ix3 b i 0))
    (he : ∀ d, e (ix3 b i d) = Spec.delta P D b i d * (![Spec.tenth, Spec.tenth, Spec.fifth, Spec.fifth] : Fin 4 → EReal) d) :
    fn_part2 (F := Ideal) R w s k e hi lo (ix2 b i) = asked (s (ix2 b i)) (k (ix2 b i))
      (Spec.box R P D (fun b d => w (ix2 b d)) b i) := by
  unfold fn_part2
  dsimp only
  refine (part3_at b i _ _ _ _ _ _ _ _ _).trans (asked_eq fun d => ?_)
  pointwise
  rw [h1, h0, he, he, he, he]
  match d with
  | 0 => rfl
  | 1 => rfl
  | 2 => rfl
  | 3 => rfl

theorem cls_first : FirstMax (fun k : Fin 81 => k.val) (fun k => (P (ix3 b i k) : EReal)) (Spec.cls P b i) := star_spec _ _

theorem max_red (hr : S2x5000x81.ReducesTo [2] S2x5000) (hu : 0 < S_.numel) :
    Host.reduce FloatOps.maximumf P (constant (F := Ideal) S_ .f32 0xFF800000#32) hr hu (ix2 b i) = Spec.score P b i := by
  pointwise
  rw [ofBits_neg_inf]
  exact fold_max_eq (f := fun k => (P (ix3 b i k) : EReal)) (cls_first b i P)

theorem take_at (idx : IVec S2x5000x1x1 32) (k : Fin 81) (hk : idx (ix4 b i 0 0) = BitVec.ofNat 32 k.val) (d : Fin 4) :
    fn_take_along_axis (F := Ideal) D idx (ix4 b i 0 d) = D (ix4 b i k d) := by
  unfold fn_take_along_axis
  dsimp only
  refine (R.gather_class 2 5000 81 4 (by decide) _ D _ b i d).trans ?_
  have e : ∀ w : BitVec 32, w = BitVec.ofNat 32 k.val → ∀ h, D (ix4 b i ⟨min w.toInt.toNat (81 - 1), h⟩ d) = D (ix4 b i k d) := by
    intro w hw h
    refine congrArg (fun x => D (ix4 b i x d)) (Fin.ext ?_)
    have := k.isLt
    subst hw
    simp only [toInt_ofNat_lt (n := k.val) (by omega)]
    omega
  refine e _ ?_ _
  pointwise
  rw [hk]
  exact R.kept_word k.val (by have := k.isLt; omega) 81#32

theorem min_red (hr : S2x5000x81.ReducesTo [2] S2x5000) (hu : 0 < S_.numel) (g : IVec S2x5000x81 32)
    (hg : ∀ k, (P (ix3 b i k) = Spec.score P b i → g (ix3 b i k) = BitVec.ofNat 32 k.val) ∧ (P (ix3 b i k) ≠ Spec.score P b i → g (ix3 b i k) = 81#32)) :
    Host.reduce IntOp.minsi g (constantI S_ 32 2147483647#32) hr hu (ix2 b i) = BitVec.ofNat 32 (Spec.cls P b i).val := by
  pointwise
  exact fold_minsi_eq (cls_first b i P) 81#32 2147483647#32 (fun x => by have := x.isLt; omega)
    (fun x => by have := x.isLt; have e : (81#32 : BitVec 32).toInt = 81 := by decide
                 rw [e]; omega)
    (fun x => by have := x.isLt; have e : (2147483647#32 : BitVec 32).toInt = 2147483647 := by decide
                 rw [e]; omega) _ hg

theorem where_at (q : FVec Ideal S2x5000 .f32) (h1 : S2x5000.BroadcastsInDim S2x5000x1 ![0, 1]) (h2 : S2x5000x1.BroadcastsInDim S2x5000x81 ![0, 1, 2])
    (hq : q (ix2 b i) = Spec.score P b i) (k : Fin 81) :
    let g := fn_where (F := Ideal) (cmpf .oeq P (broadcastInDim S2x5000x81 ![0, 1, 2] h2 (broadcastInDim S2x5000x1 ![0, 1] h1 q)))
      (iotaInDim S81 32 0) (constantI S_ 32 81#32)
    (P (ix3 b i k) = Spec.score P b i → g (ix3 b i k) = BitVec.ofNat 32 k.val) ∧ (P (ix3 b i k) ≠ Spec.score P b i → g (ix3 b i k) = 81#32) := by
  intro g
  unfold g fn_where
  simp only [id_eq]
  pointwise
  rw [hq]
  exact ⟨fun h => if_pos h, fun h => if_neg h⟩

theorem part1_at (ct v14 : FVec Ideal S4 .f32) (v15 v17 : FVec Ideal S2x4 .f32)
    (hc : ∀ d, ct (ix1 d) = (![Spec.tenth, Spec.tenth, Spec.fifth, Spec.fifth] : Fin 4 → EReal) d) :
    fn_part1 (F := Ideal) R P D ct v14 v15 v17 (ix2 b i) = asked (Spec.score P b i) (BitVec.ofNat 32 (Spec.cls P b i).val)
      (Spec.box R P D (fun b d => Ideal.div (v15 (ix2 b d) - v17 (ix2 b d)) (v14 (ix1 d))) b i) := by
  unfold fn_part1
  dsimp only
  have hs := max_red b i P preFacts.reducesTo_S2x5000x81_S2x5000_d2 preFacts.h_S_
  have hk := min_red b i P preFacts.reducesTo_S2x5000x81_S2x5000_d2 preFacts.h_S_ _
    (where_at b i P _ preFacts.bcast_S2x5000_S2x5000x1_0_1 preFacts.bcast_S2x5000x1_S2x5000x81_0_1_2 hs)
  generalize Host.reduce IntOp.minsi _ _ _ _ = kv at hk ⊢
  generalize Host.reduce (FloatOps.maximumf (F := Ideal) (φ := .f32)) P _ _ _ = sv at hs ⊢
  refine (part2_at b i R P D _ _ _ _ _ _ ?_ ?_ ?_).trans ?_
  · pointwise
  · pointwise
  · intro d
    pointwise
    rw [take_at b i D _ (Spec.cls P b i) (by pointwise; exact hk) d, hc]
    rfl
  · rw [hs, hk]
    have e : (fun (b : Fin 2) (d : Fin 4) => Host.divf (F := Ideal) (subf v15 v17) (broadcastInDim S2x4 ![0, 1] preFacts.bcast_S1x4_S2x4_0_1
        (broadcastInDim S1x4 ![1] preFacts.bcast_S4_S1x4_1 v14)) (ix2 b d)) = fun b d => Ideal.div (v15 (ix2 b d) - v17 (ix2 b d)) (v14 (ix1 d)) := by
      funext b d
      pointwise
    exact congrArg (fun W => asked _ _ (Spec.box R P D W b i)) e

theorem fn_at (M : FVec Ideal S2x93 .f32) :
    fn (F := Ideal) R P D M (ix2 b i) = asked (Spec.score P b i) (BitVec.ofNat 32 (Spec.cls P b i).val) (Spec.box R P D (win M) b i) := by
  unfold fn
  dsimp only
  refine (part1_at b i R P D _ _ _ _ fun d => ?_).trans ?_
  · match d with
    | 0 => rfl
    | 1 => rfl
    | 2 => rfl
    | 3 => rfl
  · refine congrArg (fun W => asked _ _ (Spec.box R P D W b i)) (funext fun b => funext fun d => ?_)
    match d with
    | 0 => pointwise; show Ideal.div (cell M b 7 - Ideal.ofBits .f32 0x00000000#32) _ = _; pointwise; rfl
    | 1 => pointwise; show Ideal.div (cell M b 8 - Ideal.ofBits .f32 0x00000000#32) _ = _; pointwise; rfl
    | 2 => pointwise; show Ideal.div (cell M b 9 - Ideal.ofBits .f32 0x3F800000#32) _ = _; pointwise; rfl
    | 3 => pointwise; show Ideal.div (cell M b 10 - Ideal.ofBits .f32 0x3F800000#32) _ = _; pointwise; rfl

/-- Under the precondition every region that takes part overlaps itself. -/
theorem self_overlap (M : FVec Ideal S2x93 .f32) (h : fn (F := Ideal) R P D M = fun _ => 1#1) (hc : Spec.cand P b i) :
    Spec.ov R P D (win M) b i i :=
  asked_spec P b i _ ((fn_at b i R P D M).symm.trans (congrFun h _)) hc

end Cert.Proof.Pre

end
-- ==== Proof.TopAt.lean ====
/- The top-k operation on the rows of a matrix, read at an index. -/
module

public import Idealize.ShloMosaic.PureOps
public import Idealize.ShloMosaic.Lib.Pointwise

@[expose] public section

namespace Cert.Proof.R

open Idealize.ShloMosaic

variable {α : Type} {B N K : ℕ}

theorem along_ix2 (b : Fin B) (j k : Fin N) : Shape.Idx.along (s := ⟨2, ![B, N]⟩) (ix2 b j) 1 k = ix2 b k := by
  funext a
  match a with
  | ⟨0, _⟩ => rfl
  | ⟨1, _⟩ => rfl

/-- The order in which a row is listed. -/
abbrev listed (gt : α → α → BitVec 1) (x : (⟨2, ![B, N]⟩ : Shape).Idx → α) (b : Fin B) : Fin N → Fin N :=
  sortedFrom fun i j => gt (x (ix2 b i)) (x (ix2 b j)) == 1#1

theorem slice_ix2 (h : (⟨2, ![B, N]⟩ : Shape).Slices (fun _ => 0) ⟨2, ![B, K]⟩) (hK : K ≤ N) (y : (⟨2, ![B, N]⟩ : Shape).Idx → α)
    (b : Fin B) (t : Fin K) : extractStridedSlice ⟨2, ![B, K]⟩ (fun _ => 0) y h (ix2 b t) = y (ix2 b ⟨t.val, by have := t.isLt; omega⟩) := by
  unfold extractStridedSlice
  refine congrArg y (funext fun a => Fin.ext ?_)
  match a with
  | ⟨0, _⟩ => exact Nat.zero_add _
  | ⟨1, _⟩ => exact Nat.zero_add _

theorem top_values (gt : α → α → BitVec 1) (x : (⟨2, ![B, N]⟩ : Shape).Idx → α)
    (h : (⟨2, ![B, N]⟩ : Shape).Slices (fun _ => 0) ⟨2, ![B, K]⟩) (hK : K ≤ N) (b : Fin B) (t : Fin K) :
    (Host.topK ⟨2, ![B, K]⟩ 1 gt x h).1 (ix2 b t) = x (ix2 b (listed gt x b ⟨t.val, by have := t.isLt; omega⟩)) := by
  unfold Host.topK
  dsimp only
  refine (slice_ix2 h hK _ b t).trans ?_
  unfold Host.sort2
  rw [dif_pos (show 1 < (⟨2, ![B, N]⟩ : Shape).rank from Nat.one_lt_two)]
  refine (congrArg x (along_ix2 b _ _)).trans ?_
  refine congrArg (fun k => x (ix2 b k)) ?_
  simp only [listed]
  refine congrArg (fun f => sortedFrom f _) (funext fun i => funext fun j => ?_)
  exact congrArg (· == 1#1) (congr (congrArg gt (congrArg x (along_ix2 b _ _))) (congrArg x (along_ix2 b _ _)))

theorem top_indices (gt : α → α → BitVec 1) (x : (⟨2, ![B, N]⟩ : Shape).Idx → α)
    (h : (⟨2, ![B, N]⟩ : Shape).Slices (fun _ => 0) ⟨2, ![B, K]⟩) (hK : K ≤ N) (b : Fin B) (t : Fin K) :
    (Host.topK ⟨2, ![B, K]⟩ 1 gt x h).2 (ix2 b t) = BitVec.ofNat 32 (listed gt x b ⟨t.val, by have := t.isLt; omega⟩).val := by
  unfold Host.topK
  dsimp only
  refine (slice_ix2 h hK _ b t).trans ?_
  unfold Host.sort2
  rw [dif_pos (show 1 < (⟨2, ![B, N]⟩ : Shape).rank from Nat.one_lt_two)]
  refine congrArg (fun k : Fin N => BitVec.ofNat 32 k.val) ?_
  simp only [listed]
  refine congrArg (fun f => sortedFrom f _) (funext fun i => funext fun j => ?_)
  exact congrArg (· == 1#1) (congr (congrArg gt (congrArg x (along_ix2 b _ _))) (congrArg x (along_ix2 b _ _)))

/-- The comparison of a float sort, largest first. -/
theorem gt_iff (u v : EReal) : (FloatOps.cmpfTotal (F := Ideal) (φ := .f32) .gt u v == 1#1) = true ↔ v < u := by
  rw [beq_iff_eq]
  show BitVec.ofBool (decide (u > v)) = 1#1 ↔ v < u
  by_cases hd : v < u <;> simp [hd]

end Cert.Proof.R
-- ==== Proof.RPost.lean ====
/- What the reference does after its loop, read at an index: the boxes that were kept, the hundred best of them, the rows
   of the result. -/
module

public import proofs.«01_k».proof.Proof.RRun
public import proofs.«01_k».proof.Proof.Spec
public import proofs.«01_k».proof.Proof.Folds
public import proofs.«01_k».proof.Proof.Gathers
public import proofs.«01_k».proof.Proof.TopAt
public import proofs.«01_k».proof.Proof.RLoop
public import Idealize.ShloMosaic.Lib.StableHlo.ReadAt

@[expose] public section

set_option maxRecDepth 65536

noncomputable section

namespace Cert.Proof.R

open Idealize.ShloMosaic Idealize.ShloMosaic.TcCoe Idealize.ShloMosaic.StableHlo
open Cert.ReferenceIdeal Cert.ReferenceIdeal.Gen Cert.ReferenceIdeal.Value

variable (X : Valuation τ sig (Elt Ideal))

def P1 : Valuation τ sig (Elt Ideal) := after hostOps0_7 X
def P2 : Valuation τ sig (Elt Ideal) := after hostOps0_8 (P1 X)
def P3 : Valuation τ sig (Elt Ideal) := after hostOps0_9 (P2 X)
def P4 : Valuation τ sig (Elt Ideal) := after hostOps0_10 (P3 X)
def P5 : Valuation τ sig (Elt Ideal) := after hostOps0_11 (P4 X)

theorem stretch7_writes : (hostOps0_7 : List (HloOp τ sig (Elt Ideal))).Forall fun op => op.writes ⊆
    (([main_c_18, main_v137, main_v138, main_cst_19] : List (Ref sig .tc)).map (Proc.devRef (τ := τ) .tc)).toFinset := StableHlo.forall_writes_sub_of_map rfl

theorem stretch8_writes : (hostOps0_8 : List (HloOp τ sig (Elt Ideal))).Forall fun op => op.writes ⊆
    (([main_call6_v0, main_call6_v1, main_v139] : List (Ref sig .tc)).map (Proc.devRef (τ := τ) .tc)).toFinset := StableHlo.forall_writes_sub_of_map rfl

theorem stretch10_writes : (hostOps0_10 : List (HloOp τ sig (Elt Ideal))).Forall fun op => op.writes ⊆
    (([main_call7_c, main_call7_v0, main_call7_v1, main_call7_c_0, main_call7_v2, main_call7_v3, main_call7_v4, main_v148] :
      List (Ref sig .tc)).map (Proc.devRef (τ := τ) .tc)).toFinset := StableHlo.forall_writes_sub_of_map rfl

theorem post_eq : afterL postI X = P5 X := rfl

/-- The kept boxes' scores; a box that was not kept has −1. -/
def kept (b : Fin 2) (i : Fin 5000) : EReal := P2 X main_v139 (ix2 b i)

theorem kept_at (b : Fin 2) (i : Fin 5000) :
    (((∃ cl : Fin 80, X main_v136_4 (ix3 b cl i) = 1#1) ∧ X main_v121 (ix2 b i) = 1#1) → kept X b i = X main_v22 (ix2 b i)) ∧
    (¬ ((∃ cl : Fin 80, X main_v136_4 (ix3 b cl i) = 1#1) ∧ X main_v121 (ix2 b i) = 1#1) → kept X b i = -1) := by
  have e : kept X b i = Scalar.select
      (IntOp.andi ((Finset.univ : Finset (Fin 80)).fold IntOp.ori (0#1) fun x => X main_v136_4 (ix3 b x i)) (X main_v121 (ix2 b i)))
      (X main_v22 (ix2 b i) : EReal) (Ideal.ofBits .f32 0xBF800000#32 : EReal) := by
    unfold kept P2 P1
    after_reads_at
    rfl
  rw [e, ofBits_neg_one]
  exact select_iff ((andi_one_iff _ _).trans (and_congr (fold_ori _) Iff.rfl)) _ _

/-- The box listed at place `t`. -/
def place (b : Fin 2) (t : Fin 100) : Fin 5000 :=
  sortedFrom (fun i j => FloatOps.cmpfTotal (F := Ideal) (φ := .f32) .gt (kept X b i) (kept X b j) == 1#1) ⟨t.val, by have := t.isLt; omega⟩

theorem values_at (b : Fin 2) (t : Fin 100) : P3 X main_values (ix2 b t) = kept X b (place X b t) := by
  unfold place kept P3
  generalize P2 X = U
  after_reads_at
  exact top_values (B := 2) (N := 5000) (K := 100) _ _ _ (by decide) b t

theorem indices_at (b : Fin 2) (t : Fin 100) : P3 X main_indices (ix2 b t) = BitVec.ofNat 32 (place X b t).val := by
  unfold place kept P3
  generalize P2 X = U
  after_reads_at
  exact top_indices (B := 2) (N := 5000) (K := 100) _ _ _ (by decide) b t

theorem column_at (b : Fin 2) (t : Fin 100) : P3 X main_v147 (ix3 b t 0) = BitVec.ofNat 32 (place X b t).val := by
  rw [← indices_at]
  unfold P3
  generalize P2 X = U
  after_reads_at

theorem flag_at (b : Fin 2) (t : Fin 100) :
    P3 X main_v142 (ix2 b t) = ((((BitVec.ofBool (decide (0 < kept X b (place X b t)))).toNat : ℝ)) : EReal) := by
  rw [← values_at]
  unfold P3
  generalize P2 X = U
  after_reads_at
  rfl

/-- The rows that the result is gathered from. -/
theorem row_at (b : Fin 2) (i : Fin 5000) (ch : Fin 6) : P3 X main_v146 (ix3 b i ch) =
    (![X main_v116 (ix3 b i 0), X main_v116 (ix3 b i 1), X main_v116 (ix3 b i 2), X main_v116 (ix3 b i 3),
      (((X main_v28 (ix2 b i) : BitVec 32).toInt : ℝ) : EReal), X main_v22 (ix2 b i)] : Fin 6 → EReal) ch := by
  have e1 : P2 X main_v116 = X main_v116 :=
    (after_of_writes_sub _ _ stretch8_writes (by decide +kernel)).trans (after_of_writes_sub _ _ stretch7_writes (by decide +kernel))
  have e2 : P2 X main_v28 = X main_v28 :=
    (after_of_writes_sub _ _ stretch8_writes (by decide +kernel)).trans (after_of_writes_sub _ _ stretch7_writes (by decide +kernel))
  have e3 : P2 X main_v22 = X main_v22 :=
    (after_of_writes_sub _ _ stretch8_writes (by decide +kernel)).trans (after_of_writes_sub _ _ stretch7_writes (by decide +kernel))
  rw [← e1, ← e2, ← e3]
  unfold P3
  generalize P2 X = U
  match ch with
  | 0 => after_reads_at
  | 1 => after_reads_at
  | 2 => after_reads_at
  | 3 => after_reads_at
  | 4 => after_reads_at; simp only [unary_result']; after_reads_at; rfl
  | 5 => after_reads_at; simp only [unary_result']; after_reads_at

theorem gathered_at (b : Fin 2) (t : Fin 100) (ch : Fin 6) : P4 X main_v148 (ix3 b t ch) = P3 X main_v146 (ix3 b (place X b t) ch) := by
  have h := column_at X b t
  unfold P4
  generalize P3 X = U at h
  after_reads_at
  refine (gather_rows 2 5000 100 6 (by decide) _ _ _ b t ch).trans ?_
  have e : ∀ w : BitVec 32, w = BitVec.ofNat 32 (place X b t).val → ∀ h,
      U main_v146 (ix3 b ⟨min w.toInt.toNat (5000 - 1), h⟩ ch) = U main_v146 (ix3 b (place X b t) ch) := by
    intro w hw h
    refine congrArg (fun x => U main_v146 (ix3 b x ch)) (Fin.ext ?_)
    have := (place X b t).isLt
    subst hw
    simp only [toInt_ofNat_lt (n := (place X b t).val) (by omega)]
    omega
  refine e _ ?_ _
  pointwise
  rw [h]
  exact kept_word _ (by have := (place X b t).isLt; omega) 5000#32

theorem product_at (b : Fin 2) (t : Fin 100) (ch : Fin 6) :
    (show EReal from P5 X main_v151 (ix3 b t ch)) = (show EReal from P4 X main_v148 (ix3 b t ch)) * (show EReal from P3 X main_v142 (ix2 b t)) := by
  have e : P4 X main_v142 = P3 X main_v142 := after_of_writes_sub _ _ stretch10_writes (by decide +kernel)
  rw [← e]
  unfold P5
  generalize P4 X = U
  after_reads_at

end Cert.Proof.R

end
-- ==== Proof.RExit.lean ====
/- What the loop over the classes leaves for the stretches after it, and a slot of the reference's result. -/
module

public import proofs.«01_k».proof.Proof.RLoop
public import proofs.«01_k».proof.Proof.RPre
public import proofs.«01_k».proof.Proof.RPost

@[expose] public section

set_option maxRecDepth 65536

noncomputable section

namespace Cert.Proof.R

open Cert.ReferenceIdeal Cert.ReferenceIdeal.Gen Cert.ReferenceIdeal.Value
open Idealize.ShloMosaic Idealize.ShloMosaic.StableHlo Idealize.ShloMosaic.TcCoe

variable (m : (ℓ : Loc nD τ sig) → Buf (Elt Ideal) ℓ) (c : Dev nD)

/-- The buffers at the loop's entry. -/
abbrev entryV : Valuation τ sig (Elt Ideal) := entryContents preI m c

theorem exit_v116 : exitV m c main_v116 = U5 (launched m c) main_v116 := by
  rw [exit_keep m c main_v116 (by decide +kernel) (by decide +kernel) (by decide +kernel) (by decide +kernel) (by decide +kernel)
    (by decide +kernel) (by decide +kernel) (by decide +kernel), entry_eq, keep7 _ main_v116 (by decide +kernel), keep6 _ main_v116 (by decide +kernel)]

theorem exit_v121 : exitV m c main_v121 = U5 (launched m c) main_v121 := by
  rw [exit_keep m c main_v121 (by decide +kernel) (by decide +kernel) (by decide +kernel) (by decide +kernel) (by decide +kernel)
    (by decide +kernel) (by decide +kernel) (by decide +kernel), entry_eq, keep7 _ main_v121 (by decide +kernel), keep6 _ main_v121 (by decide +kernel)]

theorem exit_v22 : exitV m c main_v22 = U4 (launched m c) main_v22 := by
  rw [exit_keep m c main_v22 (by decide +kernel) (by decide +kernel) (by decide +kernel) (by decide +kernel) (by decide +kernel)
    (by decide +kernel) (by decide +kernel) (by decide +kernel), entry_eq, keep7 _ main_v22 (by decide +kernel), keep6 _ main_v22 (by decide +kernel),
    keep5 _ main_v22 (by decide +kernel)]

theorem exit_v28 : exitV m c main_v28 = U4 (launched m c) main_v28 := by
  rw [exit_keep m c main_v28 (by decide +kernel) (by decide +kernel) (by decide +kernel) (by decide +kernel) (by decide +kernel)
    (by decide +kernel) (by decide +kernel) (by decide +kernel), entry_eq, keep7 _ main_v28 (by decide +kernel), keep6 _ main_v28 (by decide +kernel),
    keep5 _ main_v28 (by decide +kernel)]

/-- The class as the result's rows have it. -/
theorem cls_int (k : Fin 81) : (BitVec.ofNat 32 k.val).toInt = (k.val : ℤ) := by revert k; decide +kernel

/-- Class `cl` has kept a box after the 100 trips exactly in the case that it took it at one of them. -/
theorem exit_mask_at (b : Fin 2) (cl : Fin 80) (i : Fin 5000) : exitV m c main_v136_4 (ix3 b cl i) = 1#1 ↔
    ∃ n < 100, 0 ≤ line (stAt (entryV m c) n) b cl (pick (entryV m c) b cl n) ∧ pick (entryV m c) b cl n = i := by
  rw [exit_mask m c]
  exact mask_after cl (entry_mask m c b cl) 100 i

/-- The keys that the last sort goes by. -/
theorem key_at (b : Fin 2) (i : Fin 5000) :
    (((∃ cl, ∃ n < 100, 0 ≤ line (stAt (entryV m c) n) b cl (pick (entryV m c) b cl n) ∧ pick (entryV m c) b cl n = i) ∧
        Spec.cand (iP (launched m c)) b i) → kept (exitV m c) b i = Spec.score (iP (launched m c)) b i) ∧
    (¬ ((∃ cl, ∃ n < 100, 0 ≤ line (stAt (entryV m c) n) b cl (pick (entryV m c) b cl n) ∧ pick (entryV m c) b cl n = i) ∧
        Spec.cand (iP (launched m c)) b i) → kept (exitV m c) b i = -1) := by
  have h := kept_at (exitV m c) b i
  rw [exit_v121, exit_v22, kept_v22] at h
  have e := and_congr (exists_congr fun cl => exit_mask_at m c b cl i) (v121_at (launched m c) b i)
  exact ⟨fun hk => h.1 (e.mpr hk), fun hk => h.2 fun hx => hk (e.mp hx)⟩

/-- The scores at the loop's entry. -/
theorem line_start (b : Fin 2) (cl : Fin 80) (i : Fin 5000) :
    (Spec.cand (iP (launched m c)) b i ∧ Spec.cls (iP (launched m c)) b i = cl.succ →
      line (stAt (entryV m c) 0) b cl i = Spec.score (iP (launched m c)) b i) ∧
    (¬ (Spec.cand (iP (launched m c)) b i ∧ Spec.cls (iP (launched m c)) b i = cl.succ) → line (stAt (entryV m c) 0) b cl i = -1) := by
  have e : line (stAt (entryV m c) 0) b cl i = (show EReal from U6 (launched m c) main_v134 (ix3 b cl i)) := entry_scores m c b cl i
  rw [e]
  exact v134_at (launched m c) b cl i

/-- A trip of the loop. -/
theorem line_trip (b : Fin 2) (cl : Fin 80) (t : ℕ) (i : Fin 5000) :
    (0 ≤ line (stAt (entryV m c) t) b cl (pick (entryV m c) b cl t) ∧
        Spec.ov (iR (launched m c)) (iP (launched m c)) (iD (launched m c)) (iW (launched m c)) b (pick (entryV m c) b cl t) i →
      line (stAt (entryV m c) (t + 1)) b cl i = -1) ∧
    (¬ (0 ≤ line (stAt (entryV m c) t) b cl (pick (entryV m c) b cl t) ∧
        Spec.ov (iR (launched m c)) (iP (launched m c)) (iD (launched m c)) (iW (launched m c)) b (pick (entryV m c) b cl t) i) →
      line (stAt (entryV m c) (t + 1)) b cl i = line (stAt (entryV m c) t) b cl i) :=
  line_step (bx := fun b i => Spec.box (iR (launched m c)) (iP (launched m c)) (iD (launched m c)) (iW (launched m c)) b i) cl
    (fun i d => entry_box m c b i d) t i

theorem result_eq (b : Fin 2) (t : Fin 100) (ch : Fin 6) : (show EReal from result m c (ix3 b t ch)) =
    (show EReal from P3 (exitV m c) main_v146 (ix3 b (place (exitV m c) b t) ch)) *
      ((((BitVec.ofBool (decide (0 < kept (exitV m c) b (place (exitV m c) b t)))).toNat : ℝ)) : EReal) := by
  have h := product_at (exitV m c) b t ch
  rw [gathered_at, flag_at] at h
  exact h

/-- A slot of the result in the case that its key is not positive. -/
theorem result_none (b : Fin 2) (t : Fin 100) (ch : Fin 6) (h : kept (exitV m c) b (place (exitV m c) b t) = -1) :
    (show EReal from result m c (ix3 b t ch)) = 0 := by
  refine (result_eq m c b t ch).trans ?_
  have hn : ¬ (0 : EReal) < -1 := by
    rw [show (-1 : EReal) = ((-1 : ℝ) : EReal) from rfl, ← EReal.coe_zero, EReal.coe_lt_coe_iff]; norm_num
  rw [h, decide_eq_false hn]
  simp

/-- A slot of the result in the case that its key is positive. -/
theorem result_some (b : Fin 2) (t : Fin 100) (ch : Fin 6) (i : Fin 5000) (hi : place (exitV m c) b t = i)
    (h : 0 < kept (exitV m c) b i) : (show EReal from result m c (ix3 b t ch)) =
      (![Spec.y1 (iR (launched m c)) (iP (launched m c)) (iD (launched m c)) (iW (launched m c)) b i,
        Spec.x1 (iR (launched m c)) (iP (launched m c)) (iD (launched m c)) (iW (launched m c)) b i,
        Spec.y2 (iR (launched m c)) (iP (launched m c)) (iD (launched m c)) (iW (launched m c)) b i,
        Spec.x2 (iR (launched m c)) (iP (launched m c)) (iD (launched m c)) (iW (launched m c)) b i,
        (((Spec.cls (iP (launched m c)) b i).val : ℝ) : EReal), Spec.score (iP (launched m c)) b i] : Fin 6 → EReal) ch := by
  refine (result_eq m c b t ch).trans ?_
  rw [hi, decide_eq_true h]
  have e1 : ((((BitVec.ofBool true).toNat : ℝ)) : EReal) = 1 := by simp
  rw [e1, mul_one]
  refine (row_at (exitV m c) b i ch).trans ?_
  rw [exit_v116, exit_v28, exit_v22, kept_v22, kept_v28, v116_at, v116_at, v116_at, v116_at, cls_int]
  match ch with
  | 0 => rfl
  | 1 => rfl
  | 2 => rfl
  | 3 => rfl
  | 4 => simp
  | 5 => rfl

end Cert.Proof.R

end
-- ==== Proof.Final.lean ====
/- The two results agree, slot by slot, and with them the two programs. -/
module

public import proofs.«01_k».proof.Defs
public import proofs.«01_k».proof.Proof.IRun
public import proofs.«01_k».proof.Proof.KVal
public import proofs.«01_k».proof.Proof.Listed
public import proofs.«01_k».proof.Proof.PreVal
public import proofs.«01_k».proof.Proof.RExit
public import proofs.«01_k».proof.Proof.Window

@[expose] public section

set_option maxRecDepth 65536

noncomputable section

namespace Cert.Proof

open Idealize.ShloMosaic Idealize.ShloMosaic.TcCoe Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev 1)

/-- The two programs were launched on the same regions, probabilities, deltas and window. -/
structure Same : Prop where
  rois : R.iR (R.launched m' c) = I.aR m c
  probs : R.iP (R.launched m' c) = I.aP m c
  deltas : R.iD (R.launched m' c) = I.aD m c
  window : R.iW (R.launched m' c) = I.aW m c

variable {m m' c}

/-- A trip of the kernel's loop against a slot of the reference's sorted list. -/
theorem slots (h : Same m m' c)
    (hself : ∀ b i, Spec.cand (I.aP m c) b i → Spec.ov (I.aR m c) (I.aP m c) (I.aD m c) (I.aW m c) b i i) (b : Fin 2) (t : Fin 100) :
    (0 ≤ I.kS m c b t.val (I.kT m c b t.val) →
      I.kT m c b t.val = I.eC (R.place (R.exitV m' c) b t) ∧
      I.kS m c b t.val (I.kT m c b t.val) = Spec.score (I.aP m c) b (R.place (R.exitV m' c) b t) ∧
      0 < R.kept (R.exitV m' c) b (R.place (R.exitV m' c) b t)) ∧
    (¬ 0 ≤ I.kS m c b t.val (I.kT m c b t.val) → R.kept (R.exitV m' c) b (R.place (R.exitV m' c) b t) = -1) := by
  have hr0 := R.line_start m' c b
  have hrs := R.line_trip m' c b
  have hf := R.key_at m' c b
  rw [h.probs] at hr0 hf
  rw [h.rois, h.probs, h.deltas, h.window] at hrs
  have := listed_loop (X := I.Cell) (n := 5000) (C := 80) (pos := I.posC) (e := I.eC) (sc := I.kS m c b) (at' := I.kT m c b)
    (rel := I.kRel m c b) (cand := Spec.cand (I.aP m c) b) (s := Spec.score (I.aP m c) b) (cls := Spec.cls (I.aP m c) b)
    (ov := Spec.ov (I.aR m c) (I.aP m c) (I.aD m c) (I.aW m c) b)
    (rsc := fun cl t => R.line (R.stAt (R.entryV m' c) t) b cl) (rat := fun cl t => R.pick (R.entryV m' c) b cl t)
    (by decide) I.posC_eC I.posC_inj (I.kT_spec m c b) (I.kS_init m c b) (I.kS_pad m c b) (I.kS_step m c b) (I.kRel_eC m c b)
    (fun i hi => lt_of_lt_of_le conf_pos hi.2) (fun i hi => hi.1) (hself b)
    (fun cl t => R.pick_spec (R.entryV m' c) b cl t) hr0 hrs (f := R.kept (R.exitV m' c) b) hf
    (fun i j => R.gt_iff (R.kept (R.exitV m' c) b i) (R.kept (R.exitV m' c) b j)) t.val t.isLt
  exact ⟨fun h0 => ⟨(this.1 h0).1, (this.1 h0).2.1, (this.1 h0).2.2.2⟩, this.2⟩

/-- The two results. -/
theorem results (h : Same m m' c)
    (hself : ∀ b i, Spec.cand (I.aP m c) b i → Spec.ov (I.aR m c) (I.aP m c) (I.aD m c) (I.aW m c) b i i)
    (b : Fin 2) (t : Fin 100) (ch : Fin 6) :
    (show EReal from R.result m' c (ix3 b t ch)) =
      (show EReal from KernelIdeal.Gen.V7 m (I.outsB m) c Cert.KernelIdeal.main_v30 (ix3 b t ch)) := by
  obtain ⟨hs, hn⟩ := slots h hself b t
  by_cases h0 : 0 ≤ I.kS m c b t.val (I.kT m c b t.val)
  · obtain ⟨h1, h2, h3⟩ := hs h0
    refine (R.result_some m' c b t ch _ rfl h3).trans ?_
    rw [h.rois, h.probs, h.deltas, h.window]
    exact (I.out_some m c b t ch _ h0 h1 h2).symm
  · exact (R.result_none m' c b t ch (hn h0)).trans (I.out_none m c b t ch h0).symm

end

/-- The kernel and the reference compute the same detections. -/
theorem algebraic : algebraic_KernelIdeal_ReferenceIdeal_pre_boxes_overlap_themselves
    (hKernelIdeal := Cert.KernelIdeal.Gen.facts) (hReferenceIdeal := Cert.ReferenceIdeal.Gen.facts)
    (hPre_boxes_overlap_themselves := preFacts) := by
  intro m g m' g' hpre hargs
  refine ⟨fun c => KernelIdeal.Gen.V7 m (I.outsB m) c Cert.KernelIdeal.main_v30, ?_, ?_⟩
  · exact (θ_run _ _ _).mono (fun _ h c => ⟨(h.1 c).2.2.2.2, (h.1 c).1, (h.1 c).2.1, (h.1 c).2.2.1, (h.1 c).2.2.2.1⟩) (I.run m g)
  · refine (θ_run _ _ _).mono (fun _ h c => ⟨(h.1 c).2.2.2.2.trans ?_, (h.1 c).1, (h.1 c).2.1, (h.1 c).2.2.1, (h.1 c).2.2.2.1⟩) (R.run m' g')
    have hw : I.aW m c = win (m ((c.tc : Thread Cert.KernelIdeal.nD Cert.KernelIdeal.τ).loc Cert.KernelIdeal.main_arg3)) :=
      funext fun b => funext fun d => I.aW_eq m c b d
    have hsame : Same m m' c :=
      { rois := (hargs c).1
        probs := (hargs c).2.1
        deltas := (hargs c).2.2.1
        window := by
          rw [hw]
          funext b d
          refine (R.iW_eq (R.launched m' c) b d).trans ?_
          exact congrArg (fun M => win M b d) (hargs c).2.2.2 }
    have hself : ∀ b i, Spec.cand (I.aP m c) b i → Spec.ov (I.aR m c) (I.aP m c) (I.aD m c) (I.aW m c) b i i := by
      intro b i hc
      rw [hw]
      exact Pre.self_overlap b i _ _ _ _ (hpre c) hc
    funext j
    rw [show j = ix3 (j 0) (j 1) (j 2) from by funext d; match d with | 0 => rfl | 1 => rfl | 2 => rfl]
    exact results hsame hself (j 0) (j 1) (j 2)

end Cert.Proof

end
-- ==== Proof.Frames.lean ====
/- The frames: each program runs to the end, leaves its arguments as launched and every counter at zero. -/
module

public import proofs.«01_k».proof.Defs
public import proofs.«01_k».proof.Proof.IRun
public import proofs.«01_k».proof.Proof.KRun
public import proofs.«01_k».proof.Proof.PreFacts
public import proofs.«01_k».proof.Proof.RRun

@[expose] public section

noncomputable section

namespace Cert.Proof

open Idealize.ShloMosaic Idealize.SL.Sem

/-- The kernel's frame. -/
theorem frameK : quiescent_Kernel (hKernel := Cert.Kernel.Gen.facts) := fun m g _ =>
  (θ_run _ _ _).mono (fun _ h => ⟨fun c => ⟨(h.1 c).1, (h.1 c).2.1, (h.1 c).2.2.1, (h.1 c).2.2.2.1⟩, h.2⟩) (K.run m g)

/-- The idealized kernel's frame. -/
theorem frameI : quiescent_KernelIdeal (hKernelIdeal := Cert.KernelIdeal.Gen.facts) := fun m g _ =>
  (θ_run _ _ _).mono (fun _ h => ⟨fun c => ⟨(h.1 c).1, (h.1 c).2.1, (h.1 c).2.2.1, (h.1 c).2.2.2.1⟩, h.2⟩) (I.run m g)

/-- The idealized reference's frame. -/
theorem frameR : quiescent_ReferenceIdeal (hReferenceIdeal := Cert.ReferenceIdeal.Gen.facts) := fun m g _ =>
  (θ_run _ _ _).mono (fun _ h => ⟨fun c => ⟨(h.1 c).1, (h.1 c).2.1, (h.1 c).2.2.1, (h.1 c).2.2.2.1⟩, h.2⟩) (R.run m g)

/-- The idealized kernel's frame, of the inputs that the value claim speaks of. -/
theorem frameIpre : quiescent_KernelIdeal_pre_boxes_overlap_themselves (hKernelIdeal := Cert.KernelIdeal.Gen.facts)
    (hPre_boxes_overlap_themselves := preFacts) := fun m g _ => frameI m g trivial

/-- The idealized reference's frame, of the inputs that the value claim speaks of. -/
theorem frameRpre : quiescent_ReferenceIdeal_pre_boxes_overlap_themselves (hReferenceIdeal := Cert.ReferenceIdeal.Gen.facts)
    (hPre_boxes_overlap_themselves := preFacts) := fun m g _ => frameR m g trivial

end Cert.Proof

end
-- ==== Proof.lean ====
/- The claim, assembled from the modules under Proof/. -/
module

public import proofs.«01_k».proof.Defs
public import proofs.«01_k».proof.Proof.Gen.ReferenceIdeal.Run
public import proofs.«01_k».proof.Proof.Final
public import proofs.«01_k».proof.Proof.Frames

@[expose] public section

noncomputable section

namespace Cert.Proof

/-- Everything this certificate claims. -/
theorem claim : Cert.Claim :=
  ⟨Cert.Kernel.Gen.facts, Cert.KernelIdeal.Gen.facts, Cert.ReferenceIdeal.Gen.facts, preFacts, frameK, frameI, frameIpre,
    frameR, frameRpre, trivial, algebraic⟩

end Cert.Proof

end
